-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S3x1024x4096 : Shape := ⟨3, ![3, 1024, 4096]⟩
abbrev S2x256x4096 : Shape := ⟨3, ![2, 256, 4096]⟩
abbrev S2x1024x2048 : Shape := ⟨3, ![2, 1024, 2048]⟩
abbrev S2x256x2048 : Shape := ⟨3, ![2, 256, 2048]⟩
abbrev S12 : Shape := ⟨1, ![12]⟩
abbrev S3 : Shape := ⟨1, ![3]⟩
abbrev S2 : Shape := ⟨1, ![2]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S1x1024x2048 : Shape := ⟨3, ![1, 1024, 2048]⟩
abbrev S1024x2048 : Shape := ⟨2, ![1024, 2048]⟩
abbrev S256x2048 : Shape := ⟨2, ![256, 2048]⟩
abbrev S1x256x2048 : Shape := ⟨3, ![1, 256, 2048]⟩

abbrev nBuf : Space → Nat
  | .hbm => 4
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x2048, .f32⟩
  | .hbm, ⟨2, _⟩ => ⟨S4096x2048, .f32⟩
  | .hbm, ⟨3, _⟩ => ⟨S3x1024x4096, .bf16⟩
  | .local _ .vmem, ⟨0, _⟩ => ⟨S4096x2048, .bf16⟩
  | .local _ .vmem, ⟨1, _⟩ => ⟨S1024x4096, .bf16⟩
  | .local _ .vmem, ⟨2, _⟩ => ⟨S2x256x4096, .f32⟩
  | .local _ .vmem, ⟨3, _⟩ => ⟨S2x1024x2048, .f32⟩
  | .local _ .vmem, ⟨4, _⟩ => ⟨S2x256x4096, .bf16⟩
  | .local _ .vmem, ⟨5, _⟩ => ⟨S2x256x2048, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩

abbrev nD : Nat := 4
abbrev τ : Topo := Topo.v7x

variable {F : FTy → Type} [FloatOps F]

abbrev grid0 : Pipeline.Grid := .none

def k0_dev1 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_44 : BitVec 32 := 1#32
  let v44 : BitVec 32 := Scalar.muli v4 c1_i32_44
  let v45 : BitVec 32 := Scalar.addi c0_i32_45 v44
  v45.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_53 : BitVec 32 := 1#32
  let v53 : BitVec 32 := Scalar.muli v7 c1_i32_53
  let v54 : BitVec 32 := Scalar.addi c0_i32_54 v53
  v54.toNat
def k0_dev3 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_76 : BitVec 32 := 1#32
  let v78 : BitVec 32 := Scalar.muli v4 c1_i32_76
  let v79 : BitVec 32 := Scalar.addi c0_i32_77 v78
  v79.toNat
def k0_dev4 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_84 : BitVec 32 := 1#32
  let v87 : BitVec 32 := Scalar.muli v7 c1_i32_84
  let v88 : BitVec 32 := Scalar.addi c0_i32_85 v87
  v88.toNat
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_102 : BitVec 32 := 1#32
  let v107 : BitVec 32 := Scalar.muli v4 c1_i32_102
  let v108 : BitVec 32 := Scalar.addi c0_i32_103 v107
  v108.toNat
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_110 : BitVec 32 := 1#32
  let v116 : BitVec 32 := Scalar.muli v7 c1_i32_110
  let v117 : BitVec 32 := Scalar.addi c0_i32_111 v116
  v117.toNat
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_128 : BitVec 32 := 1#32
  let v136 : BitVec 32 := Scalar.muli v4 c1_i32_128
  let v137 : BitVec 32 := Scalar.addi c0_i32_129 v136
  v137.toNat
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_136 : BitVec 32 := 1#32
  let v145 : BitVec 32 := Scalar.muli v7 c1_i32_136
  let v146 : BitVec 32 := Scalar.addi c0_i32_137 v145
  v146.toNat
def k0_off1 (d0 : Dev nD) (c0_i32_194 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_193 : BitVec 32 := 1024#32
  let v208 : BitVec 32 := Scalar.muli v2 c1024_i32_193
  let v209 : BitVec 32 := Scalar.addi v208 c0_i32_194
  let c0_i32_240 : BitVec 32 := 0#32
  ![v209.toNat, 0]
def k0_dev9 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_301 : BitVec 32 := 1#32
  let v332 : BitVec 32 := Scalar.muli v4 c1_i32_301
  let v333 : BitVec 32 := Scalar.addi c0_i32_302 v332
  v333.toNat
def k0_off2 (d0 : Dev nD) (c0_i32_202 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1024_i32_201 : BitVec 32 := 1024#32
  let v216 : BitVec 32 := Scalar.muli v7 c1024_i32_201
  let v217 : BitVec 32 := Scalar.addi v216 c0_i32_202
  let c0_i32_372 : BitVec 32 := 0#32
  ![v217.toNat, 0]
def k0_dev10 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_394 : BitVec 32 := 1#32
  let v433 : BitVec 32 := Scalar.muli v4 c1_i32_394
  let v434 : BitVec 32 := Scalar.addi c0_i32_395 v433
  v434.toNat
def k0_off3 (d0 : Dev nD) (c1_i32_0 : BitVec 32) (c0_i32_204 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let v4 : BitVec 32 := Scalar.remsi v3 c4_i32_1
  let c1024_i32_203 : BitVec 32 := 1024#32
  let v218 : BitVec 32 := Scalar.muli v4 c1024_i32_203
  let v219 : BitVec 32 := Scalar.addi v218 c0_i32_204
  let c0_i32_427 : BitVec 32 := 0#32
  ![v219.toNat, 0]
def k0_dev11 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_541 : BitVec 32 := 1#32
  let v590 : BitVec 32 := Scalar.muli v7 c1_i32_541
  let v591 : BitVec 32 := Scalar.addi c0_i32_542 v590
  v591.toNat
def k0_dev12 (d0 : Dev nD) : Nat :=
  let c0_i32_643 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_642 : BitVec 32 := 1#32
  let v698 : BitVec 32 := Scalar.muli v7 c1_i32_642
  let v699 : BitVec 32 := Scalar.addi c0_i32_643 v698
  v699.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Windows.lean ====
/-
  The names this certificate works with: the four devices of the ring, the blocks of each buffer the kernel moves as
  memrefs over small indices, the semaphores, and the contents the blocks hold.
-/
module

public import proofs.«01_k».proof.Defs
public import Idealize.ShloMosaic.Lib.Pipeline.Launch
public import Idealize.ShloMosaic.Lib.Tactic
public import Idealize.ShloMosaic.Lib.Transfers
public import Idealize.ShloMosaic.Lib.Memref
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The ring of four devices -/

set_option backward.proofsInPublic true in
/-- The right neighbour. -/
def rt (c : Dev nD) : Dev nD := ⟨(c.val + 1) % 4, Nat.mod_lt _ (by decide)⟩
set_option backward.proofsInPublic true in
/-- The left neighbour. -/
def lf (c : Dev nD) : Dev nD := ⟨(c.val + 3) % 4, Nat.mod_lt _ (by decide)⟩
set_option backward.proofsInPublic true in
/-- The opposite device. -/
def op (c : Dev nD) : Dev nD := ⟨(c.val + 2) % 4, Nat.mod_lt _ (by decide)⟩

/-! ## Blocks -/

/-- Rows `256 k` to `256 k + 255` of a device's rows of `x`. -/
def rowR (k : Fin 4) : Rect S1024x4096 :=
  Rect.unit (s := S1024x4096) ![256 * k.val, 0] S256x4096.size (by revert k; decide)
/-- The same of the three received copies: copy `a`, rows `256 k` to `256 k + 255`. -/
def commR (a : Fin 3) (k : Fin 4) : Rect S3x1024x4096 :=
  Rect.unit (s := S3x1024x4096) ![a.val, 256 * k.val, 0] S1x256x4096.size (by revert a k; decide)
/-- Half `s` of a double buffer of row blocks. -/
def xslotR (s : Fin 2) : Rect S2x256x4096 :=
  Rect.unit (s := S2x256x4096) ![s.val, 0, 0] S1x256x4096.size (by revert s; decide)
/-- Half `s` of the double buffer of quarters of `w`. -/
def wslotR (s : Fin 2) : Rect S2x1024x2048 :=
  Rect.unit (s := S2x1024x2048) ![s.val, 0, 0] S1x1024x2048.size (by revert s; decide)
/-- Half `s` of the double buffer of result blocks. -/
def oslotR (s : Fin 2) : Rect S2x256x2048 :=
  Rect.unit (s := S2x256x2048) ![s.val, 0, 0] S1x256x2048.size (by revert s; decide)
/-- Quarter `k` of the rows of `w`. -/
def quartR (k : Fin 4) : Rect S4096x2048 :=
  Rect.unit (s := S4096x2048) ![1024 * k.val, 0] S1024x2048.size (by revert k; decide)
/-- The rows of the result that device `d`'s rows `256 k` to `256 k + 255` make. -/
def outR (d : Dev nD) (k : Fin 4) : Rect S4096x2048 :=
  Rect.unit (s := S4096x2048) ![1024 * d.val + 256 * k.val, 0] S256x2048.size (by revert d k; decide)

/-- A row block of the input `x`. -/
def xRow (k : Fin 4) : Memref sig .tc .hbm S256x4096 .f32 := (Memref.whole main_arg0).slice (rowR k) (fun _ => rfl)
/-- A quarter of the input `w`. -/
def wQuart (k : Fin 4) : Memref sig .tc .hbm S1024x2048 .f32 := (Memref.whole main_arg1).slice (quartR k) (fun _ => rfl)
/-- A row block of the result. -/
def outM (d : Dev nD) (k : Fin 4) : Memref sig .tc .hbm S256x2048 .f32 := (Memref.whole main_v1_0).slice (outR d k) (fun _ => rfl)
/-- A row block of a received copy. -/
def commM (a : Fin 3) (k : Fin 4) : Memref sig .tc .hbm S256x4096 .bf16 :=
  ((Memref.whole main_v1_1).slice (commR a k) (fun _ => rfl)).squeeze S256x4096 squeezes_S1x256x4096_S256x4096
/-- A quarter of the narrowed `w`. -/
def wbQuart (k : Fin 4) : Memref sig .tc .vmem S1024x2048 .bf16 := (Memref.whole cc0_scratch0).slice (quartR k) (fun _ => rfl)
/-- A row block of the narrowed own `x`. -/
def xown (k : Fin 4) : Memref sig .tc .vmem S256x4096 .bf16 := (Memref.whole cc0_scratch1).slice (rowR k) (fun _ => rfl)
/-- A half of the buffer the rows of `x` arrive in. -/
def xtmp (s : Fin 2) : Memref sig .tc .vmem S256x4096 .f32 :=
  ((Memref.whole cc0_scratch2).slice (xslotR s) (fun _ => rfl)).squeeze S256x4096 squeezes_S1x256x4096_S256x4096
/-- A half of the buffer the quarters of `w` arrive in. -/
def wtmp (s : Fin 2) : Memref sig .tc .vmem S1024x2048 .f32 :=
  ((Memref.whole cc0_scratch3).slice (wslotR s) (fun _ => rfl)).squeeze S1024x2048 squeezes_S1x1024x2048_S1024x2048
/-- A half of the buffer the received rows are staged in. -/
def xstage (s : Fin 2) : Memref sig .tc .vmem S256x4096 .bf16 :=
  ((Memref.whole cc0_scratch4).slice (xslotR s) (fun _ => rfl)).squeeze S256x4096 squeezes_S1x256x4096_S256x4096
/-- A half of the buffer the results leave from. -/
def obuf (s : Fin 2) : Memref sig .tc .vmem S256x2048 .f32 :=
  ((Memref.whole cc0_scratch5).slice (oslotR s) (fun _ => rfl)).squeeze S256x2048 squeezes_S1x256x2048_S256x2048

/-- The copy a channel's transfer lands in (0 to 3 go to the right into copy 0, 4 to 7 to the left into copy 1, the last
    four pass a received block on into copy 2), -/
def chA (i : Fin 12) : Fin 3 := ⟨i.val / 4, by omega⟩
/-- and the row block it moves. -/
def chK (i : Fin 12) : Fin 4 := ⟨i.val % 4, by omega⟩
/-- The copy a passed-on row block is read from. -/
def fwdA (k : Fin 4) : Fin 3 := ⟨k.val / 2, by omega⟩

/-! ## Semaphores -/

/-- The send semaphore of channel `i`, -/
def sndS (i : Fin 12) : DmaSem sig :=
  ((cc0_scratch6.slice (Rect.unit (s := S12) ![i.val] S1.size (by revert i; decide))).squeeze S_ squeezes_S1_S_).sem
/-- its receive semaphore, -/
def rcvS (i : Fin 12) : DmaSem sig :=
  ((cc0_scratch7.slice (Rect.unit (s := S12) ![i.val] S1.size (by revert i; decide))).squeeze S_ squeezes_S1_S_).sem
/-- the semaphores of the copies in, -/
def cpS (s : Fin 2) : DmaSem sig :=
  ((cc0_scratch8.slice (Rect.unit (s := S3) ![s.val] S1.size (by revert s; decide))).squeeze S_ squeezes_S1_S_).sem
/-- and of the copies out. -/
def stS (s : Fin 2) : DmaSem sig :=
  ((cc0_scratch9.slice (Rect.unit (s := S2) ![s.val] S1.size (by revert s; decide))).squeeze S_ squeezes_S1_S_).sem

theorem sndS_val : ∀ i : Fin 12, (sndS i).val = i.val := by decide
theorem rcvS_val : ∀ i : Fin 12, (rcvS i).val = 12 + i.val := by decide
theorem cpS_val : ∀ s : Fin 2, (cpS s).val = 24 + s.val := by decide
theorem stS_val : ∀ s : Fin 2, (stS s).val = 27 + s.val := by decide

/-! ## Contents -/

variable (m : (ℓ : Loc nD τ sig) → Buf (Elt F) ℓ) (ρ : Dev nD → PrngReg)

/-- Device `c`'s rows of `x` and columns of `w` at launch, -/
def xIn (c : Dev nD) : FVec F S1024x4096 .f32 := m ((c : Thread nD τ).loc main_arg0)
def wIn (c : Dev nD) : FVec F S4096x2048 .f32 := m ((c : Thread nD τ).loc main_arg1)
/-- narrowed, -/
def xNar (c : Dev nD) : FVec F S1024x4096 .bf16 := truncf .bf16 (xIn m c) bitsLt_bf16_f32
def wNar (c : Dev nD) : FVec F S4096x2048 .bf16 := truncf .bf16 (wIn m c) bitsLt_bf16_f32
/-- and row block `k` of the narrowed rows. -/
def xb (c : Dev nD) (k : Fin 4) : FVec F S256x4096 .bf16 := fun i => xNar m c ((rowR k).emb i)

/-- The result block made of a row block of `x` and of `w`, before it is stored. -/
def blockOf (v : FVec F S256x4096 .bf16) (w : FVec F S4096x2048 .bf16) : FVec F S256x2048 .f32 :=
  shapeCast S256x2048 (k0_pay13 v w) (by decide)

/-- The row block `k` of device `d` of device `c`'s result. -/
def outB (c d : Dev nD) (k : Fin 4) : FVec F S256x2048 .f32 := blockOf (xb m d k) (wNar m c)

end Cert.Proof

end
-- ==== Proof.Program.lean ====
/-
  The kernel's body in continuation form: each step the body repeats, over the block it works on and the rest of the
  program, and the body as their sequence. The printed body is that sequence by unfolding.
-/
module

public import proofs.«01_k».proof.Proof.Windows

@[expose] public section

noncomputable section

namespace Cert.Proof

open Cert.KernelIdeal Cert.KernelIdeal.Gen
open Idealize.ShloMosaic
open Idealize.ShloMosaic.TcCoe
open Idealize.SL Idealize.SL.RA Idealize.SL.BI
open Idealize.SL.Sem

variable {F : FTy → Type} [FloatOps F]

/-- A program of the kernel's thread. -/
abbrev PP (F : FTy → Type) : Type 1 := Prog (TpuEff nD τ sig (Elt F) Λ₀ .tc) PUnit

/-! ## The blocks are made of whole words -/

theorem we_xRow (k : Fin 4) : (xRow k).view.WordExact := View.wordExact_bits rfl
theorem we_wQuart (k : Fin 4) : (wQuart k).view.WordExact := View.wordExact_bits rfl
theorem we_xtmp (s : Fin 2) : (xtmp s).view.WordExact := (View.wordExact_bits rfl).reshape _ _
theorem we_wtmp (s : Fin 2) : (wtmp s).view.WordExact := (View.wordExact_bits rfl).reshape _ _
theorem we_obuf (s : Fin 2) : (obuf s).view.WordExact := (View.wordExact_bits rfl).reshape _ _
theorem we_xown (k : Fin 4) : (xown k).view.WordExact :=
  (Memref.isWhole_whole cc0_scratch1).wordExact_slice rfl _ (by revert k; decide)
theorem we_xstage (s : Fin 2) : (xstage s).view.WordExact :=
  ((Memref.isWhole_whole cc0_scratch4).wordExact_slice rfl _ (by revert s; decide)).reshape _ _
theorem we_comm (a : Fin 3) (k : Fin 4) : (commM a k).view.WordExact :=
  ((Memref.isWhole_whole main_v1_1).wordExact_slice rfl _ (by revert a k; decide)).reshape _ _

theorem pk_row : ∀ k : Fin 4, (rowR k).PackedRows (EltTy.packing .bf16) := by decide
theorem pk_quart : ∀ k : Fin 4, (quartR k).PackedRows (EltTy.packing .bf16) := by decide

/-! ## Rows of `x` -/

/-- Start the copy of row block `k` of `x` into half `s`. -/
def inX (k : Fin 4) (s : Fin 2) (rest : PP F) : PP F :=
  .op (.enqueueDma (xRow k) (.here (xtmp s)) (.dma (cpS s)) (we_xRow k) (we_xtmp s) ⟨Or.inl rfl, trivial⟩) fun _ => rest
/-- Wait for it. -/
def waitX (k : Fin 4) (s : Fin 2) (rest : PP F) : PP F :=
  .op (.waitDma2 (cpS s) (xRow k) (xtmp s) (we_xRow k) (we_xtmp s)) fun _ => rest
/-- Narrow half `s` into row block `k` of the own rows. -/
def castX (k : Fin 4) (s : Fin 2) (rest : PP F) : PP F :=
  .op (.load (Memref.whole cc0_scratch2) (xslotR s).toLoadRect (View.loadsAt_vmem h_S1x256x4096)) fun v =>
  .op (.load (Memref.whole cc0_scratch1) (rowR k).toLoadRect (View.loadsAt_vmem h_S256x4096)) fun _ =>
  .op (.store (Memref.whole cc0_scratch1) (rowR k) (k0_pay1 v) Finset.univ
    (View.stores_vmem h_S256x4096 ((Memref.isWhole_whole cc0_scratch1).storeExact_slice rfl _ (pk_row k)) (fun _ => rfl)) (.inl rfl)) fun _ => rest

/-! ## Columns of `w` -/

/-- Start the copy of quarter `k` of `w` into half `s`. -/
def inW (k : Fin 4) (s : Fin 2) (rest : PP F) : PP F :=
  .op (.enqueueDma (wQuart k) (.here (wtmp s)) (.dma (stS s)) (we_wQuart k) (we_wtmp s) ⟨Or.inl rfl, trivial⟩) fun _ => rest
/-- Wait for it. -/
def waitW (k : Fin 4) (s : Fin 2) (rest : PP F) : PP F :=
  .op (.waitDma2 (stS s) (wQuart k) (wtmp s) (we_wQuart k) (we_wtmp s)) fun _ => rest
/-- Narrow half `s` into quarter `k` of the narrowed `w`. -/
def castW (k : Fin 4) (s : Fin 2) (rest : PP F) : PP F :=
  .op (.load (Memref.whole cc0_scratch3) (wslotR s).toLoadRect (View.loadsAt_vmem h_S1x1024x2048)) fun v =>
  .op (.load (Memref.whole cc0_scratch0) (quartR k).toLoadRect (View.loadsAt_vmem h_S1024x2048)) fun _ =>
  .op (.store (Memref.whole cc0_scratch0) (quartR k) (k0_pay5 v) Finset.univ
    (View.stores_vmem h_S1024x2048 ((Memref.isWhole_whole cc0_scratch0).storeExact_slice rfl _ (pk_quart k)) (fun _ => rfl)) (.inl rfl)) fun _ => rest

/-! ## Transfers between devices -/

/-- Send the own row block of channel `i` to device `n`. -/
def sendHop (i : Fin 12) (n : Dev nD) (rest : PP F) : PP F :=
  .op (.enqueueDma (xown (chK i)) (.remote (Dev.tc n) (commM (chA i) (chK i)) (.dma (sndS i))) (.dma (rcvS i))
    (we_xown _) (we_comm _ _) ⟨⟨rfl, Or.inl rfl⟩, trivial⟩) fun _ => rest
/-- Pass the received row block of channel `i` on to device `n`. -/
def sendFwd (i : Fin 12) (n : Dev nD) (rest : PP F) : PP F :=
  .op (.enqueueDma (commM (fwdA (chK i)) (chK i)) (.remote (Dev.tc n) (commM (chA i) (chK i)) (.dma (sndS i))) (.dma (rcvS i))
    (we_comm _ _) (we_comm _ _) ⟨⟨rfl, Or.inl rfl⟩, trivial⟩) fun _ => rest
/-- Wait for the row block of channel `i` to arrive. -/
def recvHop (i : Fin 12) (rest : PP F) : PP F :=
  .op (.waitDma2 (rcvS i) (xown (chK i)) (commM (chA i) (chK i)) (we_xown _) (we_comm _ _)) fun _ => rest
def recvFwd (i : Fin 12) (rest : PP F) : PP F :=
  .op (.waitDma2 (rcvS i) (commM (fwdA (chK i)) (chK i)) (commM (chA i) (chK i)) (we_comm _ _) (we_comm _ _)) fun _ => rest
/-- Wait for the row block of channel `i` to have left. -/
def sentHop (i : Fin 12) (rest : PP F) : PP F :=
  .op (.waitDma2 (sndS i) (commM (chA i) (chK i)) (xown (chK i)) (we_comm _ _) (we_xown _)) fun _ => rest
def sentFwd (i : Fin 12) (rest : PP F) : PP F :=
  .op (.waitDma2 (sndS i) (commM (chA i) (chK i)) (commM (fwdA (chK i)) (chK i)) (we_comm _ _) (we_comm _ _)) fun _ => rest

/-! ## Result blocks -/

/-- The rows of the result at an offset. -/
def outW (o : Fin 2 → ℕ) (h : ∀ a, o a + S256x2048.size a ≤ S4096x2048.size a) : Memref sig .tc .hbm S256x2048 .f32 :=
  (Memref.whole main_v1_0).slice (Rect.unit (s := S4096x2048) o S256x2048.size h) (fun _ => rfl)

theorem we_outW (o : Fin 2 → ℕ) (h : ∀ a, o a + S256x2048.size a ≤ S4096x2048.size a) : (outW o h).view.WordExact := View.wordExact_bits rfl

/-- Start the copy of a received row block into half `s` of the stage. -/
def stageIn (a : Fin 3) (k : Fin 4) (s : Fin 2) (rest : PP F) : PP F :=
  .op (.enqueueDma (commM a k) (.here (xstage s)) (.dma (cpS s)) (we_comm a k) (we_xstage s) ⟨Or.inl rfl, trivial⟩) fun _ => rest
/-- Wait for it. -/
def stageWait (a : Fin 3) (k : Fin 4) (s : Fin 2) (rest : PP F) : PP F :=
  .op (.waitDma2 (cpS s) (commM a k) (xstage s) (we_comm a k) (we_xstage s)) fun _ => rest
/-- Read an own row block. -/
def readOwn (k : Fin 4) (cont : FVec F S256x4096 .bf16 → PP F) : PP F :=
  .op (.load (Memref.whole cc0_scratch1) (rowR k).toLoadRect (View.loadsAt_vmem h_S256x4096)) cont
/-- Read half `s` of the stage. -/
def readStage (s : Fin 2) (cont : FVec F S256x4096 .bf16 → PP F) : PP F :=
  .op (.load (Memref.whole cc0_scratch4) (xslotR s).toLoadRect (View.loadsAt_vmem h_S1x256x4096)) fun v =>
    cont (shapeCast S256x4096 v shapeCasts_S1x256x4096_S256x4096)
/-- Wait for the result block at an offset to have left half `s`. -/
def outWait (s : Fin 2) (o : Fin 2 → ℕ) (h : ∀ a, o a + S256x2048.size a ≤ S4096x2048.size a) (rest : PP F) : PP F :=
  .op (.waitDma2 (stS s) (obuf s) (outW o h) (we_obuf s) (we_outW o h)) fun _ => rest
/-- Make the result block of a row block, put it in half `s`, and start its copy to the result's rows at an offset. -/
def gemm (s : Fin 2) (o : Fin 2 → ℕ) (h : ∀ a, o a + S256x2048.size a ≤ S4096x2048.size a) (v : FVec F S256x4096 .bf16) (rest : PP F) : PP F :=
  .op (.load (Memref.whole cc0_scratch0) (Rect.unit (s := S4096x2048) ![0, 0] S4096x2048.size inb_S4096x2048_S4096x2048_0_0).toLoadRect
    (View.loadsAt_vmem h_S4096x2048)) fun w =>
  .op (.load (Memref.whole cc0_scratch5) (oslotR s).toLoadRect (View.loadsAt_vmem h_S1x256x2048)) fun _ =>
  .op (.store (Memref.whole cc0_scratch5) (oslotR s) (k0_pay13 v w) Finset.univ (View.stores_vmem_bits_univ h_S1x256x2048 rfl) (.inl rfl)) fun _ =>
  .op (.enqueueDma (obuf s) (.here (outW o h)) (.dma (stS s)) (we_obuf s) (we_outW o h) ⟨Or.inl rfl, trivial⟩) fun _ => rest

/-! ## The body -/

/-- The own rows narrowed and sent both ways, row block by row block; `w` narrowed. -/
def prologue (n1 n2 n3 n4 n5 n6 n7 n8 : Dev nD) (rest : PP F) : PP F :=
  inX 0 0 <| inX 1 1 <| inW 0 0 <| inW 1 1 <|
  waitX 0 0 <| castX 0 0 <| inX 2 0 <| sendHop 0 n1 <| sendHop 4 n2 <|
  waitX 1 1 <| castX 1 1 <| inX 3 1 <| sendHop 1 n3 <| sendHop 5 n4 <|
  waitX 2 0 <| castX 2 0 <| sendHop 2 n5 <| sendHop 6 n6 <|
  waitX 3 1 <| castX 3 1 <| sendHop 3 n7 <| sendHop 7 n8 <|
  waitW 0 0 <| castW 0 0 <| inW 2 0 <| waitW 1 1 <| castW 1 1 <| inW 3 1 <|
  waitW 2 0 <| castW 2 0 <| waitW 3 1 <| castW 3 1 <| rest

/-- The result blocks of the own rows. -/
def ownPart (d : Dev nD) (rest : PP F) : PP F :=
  readOwn 0 fun v => gemm 0 (k0_off1 d 0#32) (k0_off1_inb d 0) v <|
  readOwn 1 fun v => gemm 1 (k0_off1 d 256#32) (k0_off1_inb d 1) v <|
  readOwn 2 fun v => outWait 0 (k0_off1 d 0#32) (k0_off1_inb d 0) <| gemm 0 (k0_off1 d 512#32) (k0_off1_inb d 2) v <|
  recvHop 0 <| stageIn 0 0 0 <| sendFwd 8 ⟨k0_dev9 d, k0_dev9_lt d⟩ <|
  readOwn 3 fun v => outWait 1 (k0_off1 d 256#32) (k0_off1_inb d 1) <| gemm 1 (k0_off1 d 768#32) (k0_off1_inb d 3) v <| rest

/-- A staged row block read and its result block made, once the block before it has left half `s`. -/
def stagedStep (a : Fin 3) (k : Fin 4) (s : Fin 2) (o o' : Fin 2 → ℕ) (h : ∀ a, o a + S256x2048.size a ≤ S4096x2048.size a)
    (h' : ∀ a, o' a + S256x2048.size a ≤ S4096x2048.size a) (rest : PP F) : PP F :=
  stageWait a k s <| readStage s fun v => outWait s o h <| gemm s o' h' v rest

/-- The result blocks of the neighbours' rows. -/
def hopPart (d : Dev nD) (rest : PP F) : PP F :=
  recvHop 4 <| stageIn 1 0 1 <|
  stagedStep 0 0 0 (k0_off1 d 512#32) (k0_off2 d 0#32) (k0_off1_inb d 2) (k0_off2_inb d 0) <|
  recvHop 1 <| stageIn 0 1 0 <| sendFwd 9 ⟨k0_dev10 d, k0_dev10_lt d⟩ <|
  stagedStep 1 0 1 (k0_off1 d 768#32) (k0_off3 d 1#32 0#32) (k0_off1_inb d 3) (k0_off3_inb d 0 0) <|
  recvHop 5 <| stageIn 1 1 1 <|
  stagedStep 0 1 0 (k0_off2 d 0#32) (k0_off2 d 256#32) (k0_off2_inb d 0) (k0_off2_inb d 1) <|
  recvHop 2 <| stageIn 0 2 0 <|
  stagedStep 1 1 1 (k0_off3 d 1#32 0#32) (k0_off3 d 1#32 256#32) (k0_off3_inb d 0 0) (k0_off3_inb d 0 1) <|
  recvHop 6 <| stageIn 1 2 1 <| sendFwd 10 ⟨k0_dev11 d, k0_dev11_lt d⟩ <|
  stagedStep 0 2 0 (k0_off2 d 256#32) (k0_off2 d 512#32) (k0_off2_inb d 1) (k0_off2_inb d 2) <|
  recvHop 3 <| stageIn 0 3 0 <|
  stagedStep 1 2 1 (k0_off3 d 1#32 256#32) (k0_off3 d 1#32 512#32) (k0_off3_inb d 0 1) (k0_off3_inb d 0 2) <|
  recvHop 7 <| stageIn 1 3 1 <| sendFwd 11 ⟨k0_dev12 d, k0_dev12_lt d⟩ <|
  stagedStep 0 3 0 (k0_off2 d 512#32) (k0_off2 d 768#32) (k0_off2_inb d 2) (k0_off2_inb d 3) rest

/-- The result blocks of the opposite device's rows, and the last one of the neighbours'. -/
def fwdPart (d : Dev nD) (rest : PP F) : PP F :=
  recvFwd 8 <| stageIn 2 0 0 <|
  stagedStep 1 3 1 (k0_off3 d 1#32 512#32) (k0_off3 d 1#32 768#32) (k0_off3_inb d 0 2) (k0_off3_inb d 0 3) <|
  recvFwd 10 <| stageIn 2 2 1 <|
  stagedStep 2 0 0 (k0_off2 d 768#32) (k0_off3 d 2#32 0#32) (k0_off2_inb d 3) (k0_off3_inb d 1 0) <|
  recvFwd 9 <| stageIn 2 1 0 <|
  stagedStep 2 2 1 (k0_off3 d 1#32 768#32) (k0_off3 d 2#32 512#32) (k0_off3_inb d 0 3) (k0_off3_inb d 1 2) <|
  recvFwd 11 <| stageIn 2 3 1 <|
  stagedStep 2 1 0 (k0_off3 d 2#32 0#32) (k0_off3 d 2#32 256#32) (k0_off3_inb d 1 0) (k0_off3_inb d 1 1) <|
  stagedStep 2 3 1 (k0_off3 d 2#32 512#32) (k0_off3 d 2#32 768#32) (k0_off3_inb d 1 2) (k0_off3_inb d 1 3) rest

/-- The waits for what is still under way. -/
def epilogue (d : Dev nD) : PP F :=
  sentHop 0 <| sentHop 1 <| sentHop 2 <| sentHop 3 <| sentHop 4 <| sentHop 5 <| sentHop 6 <| sentHop 7 <|
  sentFwd 8 <| sentFwd 9 <| sentFwd 10 <| sentFwd 11 <|
  outWait 0 (k0_off3 d 2#32 256#32) (k0_off3_inb d 1 1) <| outWait 1 (k0_off3 d 2#32 768#32) (k0_off3_inb d 1 3) <| .ret ⟨⟩

/-- The body on device `d`. -/
def bodyOf (d : Dev nD) : PP F :=
  prologue ⟨k0_dev1 d, k0_dev1_lt d⟩ ⟨k0_dev2 d, k0_dev2_lt d⟩ ⟨k0_dev3 d, k0_dev3_lt d⟩ ⟨k0_dev4 d, k0_dev4_lt d⟩
    ⟨k0_dev5 d, k0_dev5_lt d⟩ ⟨k0_dev6 d, k0_dev6_lt d⟩ ⟨k0_dev7 d, k0_dev7_lt d⟩ ⟨k0_dev8 d, k0_dev8_lt d⟩ <|
  ownPart d <| hopPart d <| fwdPart d <| epilogue d

set_option maxRecDepth 100000 in
/-- The printed body reads its device and runs the sequence. -/
theorem body_eq (t : Fin cfg0.N) : bodyAt0 (F := F) t = .op .deviceId fun d => bodyOf d := by
  chain_rfl

end Cert.Proof

end
-- ==== Proof.Protocol.lean ====
/-
  The protocol of the transfers between devices. Twelve channels a device: channels 0 to 3 take its own row blocks to the
  right, 4 to 7 to the left, 8 to 11 pass a received row block on. Each channel has a send cell on its device and a
  receive cell on its target, each of one round with one duty: the send cell's payload is the share of the source the
  transfer read, the receive cell's the landed row block.
-/
module

public import proofs.«01_k».proof.Proof.Program

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost algebra -/

/-- One copy of the rounds algebra over the cells. -/
abbrev UR : Type := URounds (GSem nD τ sig) Unit
/-- The pipeline's copy, the channels' copy, and the counters of the local copies. -/
abbrev UU : Type := UR × (UR × Counters)

local notation "𝕄" => MT nD τ sig Unit (Elt F) ℕ UU ℕ

/-- Where the pipeline's copy lies, -/
def EP : Emb UR (MT nD τ sig Unit (Elt F) ℕ UU ℕ) :=
  (Emb.inl : Emb UR UU).trans (uEmb (nD := nD) (τ := τ) (sig := sig) (Ix := Unit) (Val := Elt F) (Name := ℕ) (U := UU) (Lvl := ℕ)).toEmb
/-- where the channels' copy lies. -/
def ER : Emb UR (MT nD τ sig Unit (Elt F) ℕ UU ℕ) :=
  ((Emb.inl : Emb UR (UR × Counters)).trans (Emb.inr : Emb (UR × Counters) UU)).trans
    (uEmb (nD := nD) (τ := τ) (sig := sig) (Ix := Unit) (Val := Elt F) (Name := ℕ) (U := UU) (Lvl := ℕ)).toEmb

instance EP_landsIn : (EP : Emb UR 𝕄).LandsIn (upEmb : UEmb _ 𝕄) := by unfold EP; infer_instance
instance ER_landsIn : (ER : Emb UR 𝕄).LandsIn (upEmb : UEmb _ 𝕄) := by unfold ER; infer_instance

variable (m : (ℓ : Loc nD τ sig) → Buf (Elt F) ℓ) (ρ : Dev nD → PrngReg)

/-! ## Channels -/

/-- The device channel `i` of device `c` sends to, -/
def tgt (c : Dev nD) (i : Fin 12) : Dev nD := if i.val < 4 ∨ i.val = 8 ∨ i.val = 9 then rt c else lf c
/-- the device whose rows it sends, -/
def srcDev (c : Dev nD) (i : Fin 12) : Dev nD := if i.val < 8 then c else if i.val < 10 then lf c else rt c
/-- the device whose rows arrive on channel `i` at device `c`. -/
def orig (c : Dev nD) (i : Fin 12) : Dev nD := if i.val < 4 then lf c else if i.val < 8 then rt c else op c

theorem orig_tgt : ∀ (c : Dev nD) (i : Fin 12), orig (tgt c i) i = srcDev c i := by decide
theorem tgt_inj : ∀ i : Fin 12, Function.Injective fun c : Dev nD => tgt c i := by decide

/-- The share of the source a channel's transfer reads with. -/
def shr (i : Fin 12) : PosShare TreeShare :=
  if i.val < 4 then fullShare.right.left else if i.val < 8 then fullShare.right.right else fullShare.left

/-- The send cell and the receive cell of channel `i` on device `c`. -/
abbrev sndC (c : Dev nD) (i : Fin 12) : GSem nD τ sig := ((c : Thread nD τ), .dma (sndS i))
abbrev rcvC (c : Dev nD) (i : Fin 12) : GSem nD τ sig := ((c : Thread nD τ), .dma (rcvS i))

/-- What a transfer of one row block credits. -/
def N : ℕ := (commM 0 0).view.dmaCredit
theorem N_pos : 0 < N := View.dmaCredit_pos _ (by decide)

/-- What the send cell of channel `i` gives back on device `c`: the share of the source row block, -/
def sendPay (c : Dev nD) (i : Fin 12) : sProp 𝕄 :=
  if i.val < 8 then owns (c : Thread nD τ) (xown (chK i)) (shr i) (xb m (srcDev c i) (chK i))
  else owns (c : Thread nD τ) (commM (fwdA (chK i)) (chK i)) (shr i) (xb m (srcDev c i) (chK i))
/-- and the receive cell: the row block landed. -/
def recvPay (c : Dev nD) (i : Fin 12) : sProp 𝕄 :=
  owns (c : Thread nD τ) (commM (chA i) (chK i)) fullShare (xb m (orig c i) (chK i))

instance sendPay_storable (c : Dev nD) (i : Fin 12) : BI.Storable (upEmb : UEmb _ 𝕄) (sendPay m c i) := by
  unfold sendPay; split <;> infer_instance
instance recvPay_storable (c : Dev nD) (i : Fin 12) : BI.Storable (upEmb : UEmb _ 𝕄) (recvPay m c i) := by
  unfold recvPay; infer_instance

/-- The channel a DMA semaphore serves: as its send cell, or as its receive cell. -/
def chOf (q : DmaSem sig) : Option (Fin 12 ⊕ Fin 12) :=
  if h : q.val < 12 then some (.inl ⟨q.val, h⟩) else if h' : q.val < 24 then some (.inr ⟨q.val - 12, by omega⟩) else none

theorem chOf_snd : ∀ i : Fin 12, chOf (sndS i) = some (.inl i) := by decide
theorem chOf_rcv : ∀ i : Fin 12, chOf (rcvS i) = some (.inr i) := by decide

/-- Whether a cell belongs to a channel. -/
def isCh (g : GSem nD τ sig) : Prop := ∃ q, g.2 = .dma q ∧ (chOf q).isSome = true

/-- What a semaphore of device `c` hands its owner. -/
def payOf (c : Dev nD) : SemLoc sig → sProp 𝕄
  | .dma q => match chOf q with
    | some (.inl i) => sendPay m c i
    | some (.inr i) => recvPay m c i
    | none => iprop(emp)
  | _ => iprop(emp)

instance payOf_storable (c : Dev nD) (q : SemLoc sig) : BI.Storable (upEmb : UEmb _ 𝕄) (payOf m c q) := by
  unfold payOf; split
  · split <;> infer_instance
  · infer_instance

open Classical in
/-- The channels' schedule. -/
def Rd : Schedule (GSem nD τ sig) Unit 𝕄 where
  duties g r := if r = 0 ∧ isCh g then {()} else ∅
  amount _ _ _ := N
  payload g _ _ := payOf m g.1.1 g.2
  amount_pos _ _ _ _ := N_pos

instance Rd_storable (g : GSem nD τ sig) (r : ℕ) (d : Unit) : BI.Storable (upEmb : UEmb _ 𝕄) ((Rd m).payload g r d) :=
  payOf_storable m g.1.1 g.2

theorem isCh_snd (c : Dev nD) (i : Fin 12) : isCh (sndC c i) := ⟨_, rfl, by rw [chOf_snd]; rfl⟩
theorem isCh_rcv (c : Dev nD) (i : Fin 12) : isCh (rcvC c i) := ⟨_, rfl, by rw [chOf_rcv]; rfl⟩

theorem duties_of (g : GSem nD τ sig) (h : isCh g) : (Rd m).duties g 0 = {()} := if_pos ⟨rfl, h⟩
theorem duties_later (g : GSem nD τ sig) (r : ℕ) (h : 0 + 1 ≤ r) : (Rd m).duties g r = ∅ := if_neg fun hh => by omega
theorem expect_of (g : GSem nD τ sig) (h : isCh g) : (Rd m).expect g 0 = N := by
  unfold Schedule.expect Schedule.amountOf; rw [duties_of m g h, Finset.sum_singleton]; rfl
theorem payload_snd (c : Dev nD) (i : Fin 12) (r : ℕ) (u : Unit) : (Rd m).payload (sndC c i) r u = sendPay m c i := by
  show payOf m c (.dma (sndS i)) = _
  unfold payOf; simp only [chOf_snd]
theorem payload_rcv (c : Dev nD) (i : Fin 12) (r : ℕ) (u : Unit) : (Rd m).payload (rcvC c i) r u = recvPay m c i := by
  show payOf m c (.dma (rcvS i)) = _
  unfold payOf; simp only [chOf_rcv]
theorem rest_snd (c : Dev nD) (i : Fin 12) :
    bigSep ((Rd m).duties (sndC c i) 0 \ ∅) (fun u => (Rd m).payload (sndC c i) 0 u) = sendPay m c i := by
  rw [Finset.sdiff_empty, duties_of m _ (isCh_snd c i), bigSep_singleton, payload_snd]
theorem rest_rcv (c : Dev nD) (i : Fin 12) :
    bigSep ((Rd m).duties (rcvC c i) 0 \ ∅) (fun u => (Rd m).payload (rcvC c i) 0 u) = recvPay m c i := by
  rw [Finset.sdiff_empty, duties_of m _ (isCh_rcv c i), bigSep_singleton, payload_rcv]

/-! ## What is owed, and the levels of the cells -/

/-- What device `c` owes while the transfers of the channels of a list are still to be issued. -/
def owe (c : Dev nD) : List (Fin 12) → CellTallies nD τ sig Unit
  | [] => 0
  | i :: l => owe c l + tallyAt (rcvC (tgt c i) i) () N

/-- The channels in the order their transfers are issued. -/
def allCh : List (Fin 12) := [0, 4, 1, 5, 2, 6, 3, 7, 8, 9, 10, 11]

/-- The level of a DMA semaphore: the receive cells of what comes from a neighbour at 1, of what is passed on at 2. -/
def lvQ (q : DmaSem sig) : ℕ := if q.val < 12 ∨ 24 ≤ q.val then 0 else if q.val < 20 then 1 else 2
/-- The levels of the cells. -/
def lv (g : GSem nD τ sig) (_ : Unit) : ℕ := match g.2 with
  | .dma q => lvQ q
  | _ => 0
/-- Every cell of a TensorCore is levelled. -/
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl

/-- What is owed is owed to receive cells of the list's channels. -/
theorem owe_pos (c : Dev nD) {g : GSem nD τ sig} {u : Unit} (l : List (Fin 12)) (h : 0 < owe c l g u) :
    ∃ i ∈ l, g = rcvC (tgt c i) i := by
  induction l with
  | nil => exact absurd h (Nat.lt_irrefl 0)
  | cons i l ih =>
    by_cases hg : g = rcvC (tgt c i) i ∧ u = ()
    · exact ⟨i, List.mem_cons_self, hg.1⟩
    · have h' : 0 < owe c l g u := by
        have : owe c (i :: l) g u = owe c l g u := by
          show (owe c l + tallyAt (rcvC (tgt c i) i) () N) g u = _
          rw [Pi.add_apply, Finsupp.add_apply, tallyAt_apply, if_neg hg, add_zero]
        rwa [this] at h
      obtain ⟨j, hj, e⟩ := ih h'
      exact ⟨j, List.mem_cons_of_mem _ hj, e⟩

/-- A core may wait on a semaphore while it owes transfers to receive cells above it. -/
theorem mayWait (c : Dev nD) (q : DmaSem sig) (l : List (Fin 12)) (h : ∀ i ∈ l, lvQ q < lvQ (rcvS i)) :
    (levAts L lv : sProp 𝕄) ⊢ MayWait (c : Thread nD τ) (.dma q) () (owe c l) :=
  MayOwe.of_cut (L := L) (lev := lv) (lvQ q)
    (fun p hp => by rw [Finset.mem_singleton.mp hp, L_tc]; exact Finset.mem_singleton_self _)
    (fun g u hg => by obtain ⟨i, -, rfl⟩ := owe_pos c l hg; rw [L_tc]; exact Finset.mem_singleton_self _)
    (fun p hp => by rw [Finset.mem_singleton.mp hp]; exact le_refl (lvQ q))
    (fun g u hg => by obtain ⟨i, hi, rfl⟩ := owe_pos c l hg; exact h i hi)

/-! ## Ghost state -/

/-- The invariants of all channel cells of all devices, at some names, each cell with its first round reached. -/
def recs (K : Dev nD × (Fin 12 ⊕ Fin 12) → ℕ) : sProp 𝕄 :=
  iprop((∀ c, ∀ i, cellInv ER (Rd m) (K (c, .inl i)) (sndC c i) ∗ reached ER (sndC c i) 0)
    ∗ (∀ c, ∀ i, cellInv ER (Rd m) (K (c, .inr i)) (rcvC c i) ∗ reached ER (rcvC c i) 0) ∗ levAts L lv)

instance recs_persistent (K : Dev nD × (Fin 12 ⊕ Fin 12) → ℕ) : BI.Persistent (recs m K) := by unfold recs; infer_instance

end Cert.Proof

end
-- ==== Proof.Steps.lean ====
/-
  One rule for each kind of step of the body: over blocks owned at contents, the step's program before the rest of the
  program, what it takes and what it leaves.
-/
module

public import proofs.«01_k».proof.Proof.Protocol

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The kernel's variants: none. -/
abbrev 𝒱₀ : Variants := Variants.none

/-- The weakest precondition of a program on device `c`. -/
abbrev WP (c : Dev nD) (p : PP F) (Q : PUnit → sProp 𝕄) : sProp 𝕄 :=
  wp frame (wpE (defs₀ (F := F)) 𝒱₀ (c : Thread nD τ) none) Set.univ p Q

/-- A block of device `c` owned at contents. -/
abbrev own {sp : Space} {s : Shape} {e : EltTy} (c : Dev nD) (M : Memref sig .tc sp s e) (q : PosShare TreeShare) (X : s.Idx → Elt F e) : sProp 𝕄 :=
  owns (c : Thread nD τ) M q X

/-- What is to hold after a program. -/
abbrev Post (F : FTy → Type) : Type := PUnit.{1} → sProp (MT nD τ sig Unit (Elt F) ℕ UU ℕ)

variable (c : Dev nD) (Q : Post F)

/-! ## Loads and stores -/

/-- A load through a rectangle reads the contents the rectangle's slice is owned at. -/
theorem t_load {cs : CoreSpace} {s : Shape} {e : EltTy} {M : Memref sig .tc cs s e} {r : Rect s} (hr : ∀ a, r.stride a = 1)
    {hl : M.view.LoadsAt r.toLoadRect} {k : (r.toLoadRect.shape.Idx → Elt F e) → PP F} (q : PosShare TreeShare) (X : r.shape.Idx → Elt F e) :
    own c (M.slice r hr) q X ⊢ iprop((own c (M.slice r hr) q X -∗ WP c (k X) Q) -∗ WP c (.op (.load M r.toLoadRect hl) k) Q) := by
  unfold own owns
  iintro ⟨%f, %hf, H⟩ Hk
  iapply (wp_load_rect 𝒱₀ (c : Thread nD τ) none Set.univ (m := M) (r := r) (S := (M.access r).set) (q := q) (f := f) subset_rfl) $$ H
  iintro H
  have e1 : (M.access r).read (Elt F) f = X := hf
  rw [e1]
  iapply Hk
  iexists f
  isplitr; · ipureintro; exact hf
  iexact H

/-- A load through a rectangle whose slice is owned with its unit axes dropped. -/
theorem t_load_sq {cs : CoreSpace} {s s' : Shape} {e : EltTy} {M : Memref sig .tc cs s e} {r : Rect s} (hr : ∀ a, r.stride a = 1)
    {hq : r.shape.Squeezes s'} (hc : r.shape.ShapeCasts s')
    {hl : M.view.LoadsAt r.toLoadRect} {k : (r.toLoadRect.shape.Idx → Elt F e) → PP F} (q : PosShare TreeShare) (Y : s'.Idx → Elt F e) :
    own c ((M.slice r hr).squeeze s' hq) q Y
      ⊢ iprop((∀ v : r.shape.Idx → Elt F e, ⌜shapeCast s' v hc = Y⌝ -∗ own c ((M.slice r hr).squeeze s' hq) q Y -∗ WP c (k v) Q)
          -∗ WP c (.op (.load M r.toLoadRect hl) k) Q) := by
  unfold own owns
  iintro ⟨%f, %hf, H⟩ Hk
  rw [show ((M.slice r hr).squeeze s' hq).view.set = (M.access r).set from View.set_reshape _ _]
  iapply (wp_load_rect 𝒱₀ (c : Thread nD τ) none Set.univ (m := M) (r := r) (S := (M.access r).set) (q := q) (f := f) subset_rfl) $$ H
  iintro H
  iapply Hk $$ %((M.access r).read (Elt F) f) %hf
  iexists f
  isplitr; · ipureintro; exact hf
  iexact H

/-- A store of a whole rectangle leaves its slice at what was stored. -/
theorem t_store {cs : CoreSpace} {s : Shape} {e : EltTy} {M : Memref sig .tc cs s e} {r : Rect s} (hr : ∀ a, r.stride a = 1)
    {w : r.shape.Idx → Elt F e} {hx : (M.access r).Stores Finset.univ} {hm} {k : PUnit → PP F} (X : r.shape.Idx → Elt F e) :
    own c (M.slice r hr) fullShare X
      ⊢ iprop((own c (M.slice r hr) fullShare w -∗ WP c (k ⟨⟩) Q) -∗ WP c (.op (.store M r w Finset.univ hx hm) k) Q) := by
  unfold own owns
  iintro ⟨%f, %hf, H⟩ Hk
  iapply (wp_store 𝒱₀ (c : Thread nD τ) none Set.univ (m := M) (r := r) (Mk := Finset.univ) (S := (M.access r).set) (f := f) subset_rfl) $$ H
  iintro H
  iapply Hk
  iexists _
  isplitr
  swap; · iexact H
  ipureintro; exact View.read_write_univ _ _

/-- The same with the slice's unit axes dropped. -/
theorem t_store_sq {cs : CoreSpace} {s s' : Shape} {e : EltTy} {M : Memref sig .tc cs s e} {r : Rect s} (hr : ∀ a, r.stride a = 1)
    {hq : r.shape.Squeezes s'} (hc : r.shape.ShapeCasts s')
    {w : r.shape.Idx → Elt F e} {hx : (M.access r).Stores Finset.univ} {hm} {k : PUnit → PP F} (Y : s'.Idx → Elt F e) :
    own c ((M.slice r hr).squeeze s' hq) fullShare Y
      ⊢ iprop((own c ((M.slice r hr).squeeze s' hq) fullShare (shapeCast s' w hc) -∗ WP c (k ⟨⟩) Q)
          -∗ WP c (.op (.store M r w Finset.univ hx hm) k) Q) := by
  unfold own owns
  iintro ⟨%f, %hf, H⟩ Hk
  rw [show ((M.slice r hr).squeeze s' hq).view.set = (M.access r).set from View.set_reshape _ _]
  iapply (wp_store 𝒱₀ (c : Thread nD τ) none Set.univ (m := M) (r := r) (Mk := Finset.univ) (S := (M.access r).set) (f := f) subset_rfl) $$ H
  iintro H
  iapply Hk
  iexists _
  isplitr
  swap; · iexact H
  ipureintro
  have h1 : M.view.readAt (Elt F) r.toLoadRect ((M.access r).write (Elt F) f w Finset.univ) = w := View.read_write_univ (v := M.access r) _ _
  exact congrArg (fun z => shapeCast s' z hc) h1

/-! ## Local copies -/

/-- A local copy under way on semaphore `q`, delivering `D`. -/
def Fl (c : Dev nD) (q : DmaSem sig) (n : ℕ) (D : sProp 𝕄) : sProp 𝕄 :=
  Transfers.Flight (countersEmb : UEmb Counters 𝕄) (c : Thread nD τ) (.dma q) () n D

/-- What a core owes, whatever waits it has recorded. -/
def owesL (c : Dev nD) (l : List (Fin 12)) : sProp 𝕄 := iprop(∃ W, owes (c : Thread nD τ) (owe c l) W)

/-- Issuing a local copy. -/
theorem t_copy {sp sp' : Space} {s : Shape} {e : EltTy} {src : Memref sig .tc sp s e} {dst : Memref sig .tc sp' s e} {q : DmaSem sig}
    {hsrc : src.view.WordExact} {hdst : dst.view.WordExact} {hsem : DmaTarget.Typed (nD := nD) (τ := τ) (p := .tc) sp (.dma q) (.here dst)}
    {k : PUnit → PP F} (hN : 0 < dst.view.dmaCredit) (qs : PosShare TreeShare) (X Y : s.Idx → Elt F e) :
    iprop(own c src qs X ∗ own c dst fullShare Y ∗ semVal ((c : Thread nD τ), .dma q) 0)
      ⊢ iprop((Fl c q dst.view.dmaCredit iprop(own c dst fullShare X ∗ own c src qs X) -∗ WP c (k ⟨⟩) Q)
          -∗ WP c (.op (.enqueueDma src (.here dst) (.dma q) hsrc hdst hsem) k) Q) := by
  unfold own owns Fl
  iintro ⟨⟨%f, %hf, Hs⟩, ⟨%g, %hg, Hd⟩, Hv⟩ Hk
  iapply (Transfers.wp_dmaLocal (countersEmb : UEmb Counters 𝕄) 𝒱₀ (c : Thread nD τ) none () dst.view.dmaCredit rfl hN (subset_rfl)) $$ [Hs Hd Hv]
  · isplitl [Hs]; · iexact Hs
    isplitl [Hd]; · iexact Hd
    iexact Hv
  iintro HF
  iapply Hk
  iapply (Transfers.Flight_mono (countersEmb : UEmb Counters 𝕄) (c : Thread nD τ) ?_) $$ HF
  iintro ⟨Hd, Hs⟩
  isplitl [Hd]
  · iexists _
    isplitr
    swap; · iexact Hd
    ipureintro
    exact (View.read_write_univ _ _).trans hf
  · iexists f
    isplitr; · ipureintro; exact hf
    iexact Hs

/-- Waiting for a local copy, owing what lies above. -/
theorem t_wait {sp sp' : Space} {s s' : Shape} {e e' : EltTy} {src : Memref sig .tc sp s e} {dst : Memref sig .tc sp' s' e'} {q : DmaSem sig}
    {hsrc : src.view.WordExact} {hdst : dst.view.WordExact}
    {k : PUnit → PP F} (n : ℕ) (hN : dst.view.dmaCredit = n) (D : sProp 𝕄) (l : List (Fin 12)) (h : ∀ i ∈ l, lvQ q < lvQ (rcvS i)) :
    iprop(levAts L lv ∗ Fl c q n D ∗ owesL c l)
      ⊢ iprop((D -∗ semVal ((c : Thread nD τ), .dma q) 0 -∗ owesL c l -∗ WP c (k ⟨⟩) Q)
          -∗ WP c (.op (.waitDma2 q src dst hsrc hdst) k) Q) := by
  unfold Fl owesL
  iintro ⟨Hlev, HF, ⟨%W, HO⟩⟩ Hk
  iapply (Transfers.wp_waitLocalO (countersEmb : UEmb Counters 𝕄) 𝒱₀ (c : Thread nD τ) none () hN (O := owe c l) (W := W)) $$ [Hlev HF HO]
  · isplitl [HF]; · iexact HF
    isplitl [HO]; · iexact HO
    iapply (mayWait c q l h); iexact Hlev
  iintro ⟨HD, Hv, HO⟩
  iapply Hk $$ HD Hv
  iexists _; iexact HO

/-! ## Transfers between devices -/

variable (m : (ℓ : Loc nD τ sig) → Buf (Elt F) ℓ) (K : Dev nD × (Fin 12 ⊕ Fin 12) → ℕ)

/-- What device `c` holds to issue channel `i`'s transfer: the two duties' tokens, and the target's row block. -/
def sendR (c : Dev nD) (i : Fin 12) : sProp 𝕄 :=
  iprop(dutyTok ER (sndC c i) 0 () ∗ dutyTok ER (rcvC (tgt c i) i) 0 ()
    ∗ ∃ Y : S256x4096.Idx → Elt F .bf16, own (tgt c i) (commM (chA i) (chK i)) fullShare Y)

theorem amt_comm (a : Fin 3) (k : Fin 4) : (commM a k).view.dmaCredit = N := rfl
theorem amt_xown (k : Fin 4) : (xown k).view.dmaCredit = N := rfl

/-- Issuing channel `i`'s transfer. -/
theorem t_send {sp : Space} {src : Memref sig .tc sp S256x4096 .bf16} (i : Fin 12) (n : Dev nD) (hn : n = tgt c i)
    {hsc : (commM (chA i) (chK i) : Memref sig (Dev.tc n : Thread nD τ).2.kind .hbm S256x4096 .bf16).view.ref.isScScratch = false}
    {hsrc : src.view.WordExact} {hdst : (commM (chA i) (chK i)).view.WordExact}
    {hsem : DmaTarget.Typed (nD := nD) (τ := τ) (p := .tc) sp (.dma (rcvS i)) (.remote (Dev.tc n : Thread nD τ) (commM (chA i) (chK i)) (.dma (sndS i)) hsc)}
    {k : PUnit → PP F} (q : PosShare TreeShare) (X : S256x4096.Idx → Elt F .bf16) (hX : X = xb m (srcDev c i) (chK i))
    (hp : own c src q X ⊢ sendPay m c i) (l : List (Fin 12)) :
    iprop(recs m K ∗ sendR c i ∗ own c src q X ∗ owesL c (i :: l))
      ⊢ iprop((cred (tallyAt (sndC c i) () N) -∗ owesL c l -∗ WP c (k ⟨⟩) Q)
          -∗ WP c (.op (.enqueueDma src (.remote (Dev.tc n : Thread nD τ) (commM (chA i) (chK i)) (.dma (sndS i)) hsc) (.dma (rcvS i)) hsrc hdst hsem) k) Q) := by
  subst hn
  unfold sendR owesL recs
  iintro ⟨⟨#HS, #HR, -⟩, ⟨Ht1, Ht2, ⟨%Y, Hd⟩⟩, Hs, ⟨%W, HO⟩⟩ Hk
  ihave HS' := HS $$ %c %i
  icases HS' with ⟨#HI1, #Hr1⟩
  ihave HR' := HR $$ %(tgt c i) %i
  icases HR' with ⟨#HI2, #Hr2⟩
  have hp' : ∀ f, src.view.read (Elt F) f = X →
      ((src.view.loc (c : Thread nD τ) ↦[src.view.set]{q} f : sProp 𝕄) ⊢ (Rd m).payload (sndC c i) 0 ()) := fun f hf => by
    rw [payload_snd]
    refine BIBase.Entails.trans ?_ hp
    unfold own owns
    iintro H
    iexists f
    isplitr; · ipureintro; exact hf
    iexact H
  unfold own owns
  icases Hs with ⟨%f, %hf, Hs⟩
  icases Hd with ⟨%g, %hg, Hd⟩
  iapply (Rounds.wp_send_pointsTo 𝒱₀ ER (Rd m) (c : Thread nD τ) none (κ₁ := K (c, .inl i)) (κ₂ := K (tgt c i, .inr i))
    (r₁ := 0) (r₂ := 0) (d₁ := ()) (d₂ := ()) (fs := f) (fd := g) (q := q)
    (by rw [duties_of m _ (isCh_snd c i)]; exact Finset.mem_singleton_self _)
    (by rw [duties_of m _ (isCh_rcv (tgt c i) i)]; exact Finset.mem_singleton_self _)
    () () N rfl rfl rfl (owe c l) rfl (W := W) (hp' f hf)
    (by
      rw [payload_rcv]; unfold recvPay owns
      iintro H
      iexists _
      isplitr
      swap; · iexact H
      ipureintro
      rw [orig_tgt, ← hX, ← hf]
      exact View.read_write_univ _ _)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk $$ Hc
  iexists W; iexact HO

/-- Waiting on the send cell of channel `i`, owing nothing: the source's share comes back, the cell at zero. -/
theorem t_sent {sp sp' : Space} {s s' : Shape} {e e' : EltTy} {src : Memref sig .tc sp s e} {dst : Memref sig .tc sp' s' e'} (i : Fin 12)
    {hsrc : src.view.WordExact} {hdst : dst.view.WordExact} {k : PUnit → PP F} (hN : dst.view.dmaCredit = N) :
    iprop(recs m K ∗ cred (tallyAt (sndC c i) () N) ∗ atPos ER (sndC c i) 0 ∅ 0 ∗ owesL c [])
      ⊢ iprop((sendPay m c i -∗ semVal (sndC c i) 0 -∗ owesL c [] -∗ WP c (k ⟨⟩) Q)
          -∗ WP c (.op (.waitDma2 (sndS i) src dst hsrc hdst) k) Q) := by
  unfold owesL recs
  iintro ⟨⟨#HS, -, -⟩, Hc, Hat, ⟨%W, HO⟩⟩ Hk
  ihave HS' := HS $$ %c %i
  icases HS' with ⟨#HI, -⟩
  iapply (Rounds.wp_wait_rest_token 𝒱₀ ER (Rd m) (c : Thread nD τ) none (κ := K (c, .inl i)) (k' := N)
      (fun K' => (wpE_waitDma2_eq 𝒱₀ (c : Thread nD τ) none Set.univ K').trans (by rw [hN])) (Set.mem_univ _) () (O := owe c []) (W := W) (R := 0) (m := 0) (T := ∅)
      (by rw [Nat.zero_add, expect_of m _ (isCh_snd c i)])) $$ [Hc HO Hat]
  · isplitr; · iexact HI
    isplitl [Hc]; · iexact Hc
    isplitl [HO]; · iexact HO
    isplitr; · rw [show owe c [] = 0 from rfl, MayWait_zero]; iempintro
    iexact Hat
  iintro ⟨HO, Hat, -, Hpay⟩
  ihave Hp := (Entails.of_eq (rest_snd m c i)) $$ Hpay
  imod (Rounds.cell_close ER (Rd m) (Set.mem_univ (K (c, .inl i))) (fun h => h) (R := 0 + 1) (duties_later m (sndC c i))) $$ [Hat] with Hz
  · isplitr; · iexact HI
    iexact Hat
  iapply Hk $$ Hp Hz
  iexists _; iexact HO

/-- Waiting on the receive cell of channel `i`, owing what lies above: the row block, the cell at zero. -/
theorem t_recv {sp sp' : Space} {s s' : Shape} {e e' : EltTy} {src : Memref sig .tc sp s e} {dst : Memref sig .tc sp' s' e'} (i : Fin 12)
    {hsrc : src.view.WordExact} {hdst : dst.view.WordExact} {k : PUnit → PP F} (hN : dst.view.dmaCredit = N)
    (l : List (Fin 12)) (h : ∀ j ∈ l, lvQ (rcvS i) < lvQ (rcvS j)) :
    iprop(recs m K ∗ cred (tallyAt (rcvC c i) () N) ∗ atPos ER (rcvC c i) 0 ∅ 0 ∗ owesL c l)
      ⊢ iprop((recvPay m c i -∗ semVal (rcvC c i) 0 -∗ owesL c l -∗ WP c (k ⟨⟩) Q)
          -∗ WP c (.op (.waitDma2 (rcvS i) src dst hsrc hdst) k) Q) := by
  unfold owesL recs
  iintro ⟨⟨-, #HR, #Hlev⟩, Hc, Hat, ⟨%W, HO⟩⟩ Hk
  ihave HR' := HR $$ %c %i
  icases HR' with ⟨#HI, -⟩
  iapply (Rounds.wp_wait_rest_token 𝒱₀ ER (Rd m) (c : Thread nD τ) none (κ := K (c, .inr i)) (k' := N)
      (fun K' => (wpE_waitDma2_eq 𝒱₀ (c : Thread nD τ) none Set.univ K').trans (by rw [hN])) (Set.mem_univ _) () (O := owe c l) (W := W) (R := 0) (m := 0) (T := ∅)
      (by rw [Nat.zero_add, expect_of m _ (isCh_rcv c i)])) $$ [Hc HO Hat]
  · isplitr; · iexact HI
    isplitl [Hc]; · iexact Hc
    isplitl [HO]; · iexact HO
    isplitr; · iapply (mayWait c (rcvS i) l h); iexact Hlev
    iexact Hat
  iintro ⟨HO, Hat, -, Hpay⟩
  ihave Hp := (Entails.of_eq (rest_rcv m c i)) $$ Hpay
  imod (Rounds.cell_close ER (Rd m) (Set.mem_univ (K (c, .inr i))) (fun h => h) (R := 0 + 1) (duties_later m (rcvC c i))) $$ [Hat] with Hz
  · isplitr; · iexact HI
    iexact Hat
  iapply Hk $$ Hp Hz
  iexists _; iexact HO

end Cert.Proof

end
-- ==== Proof.Macro.lean ====
/-
  The body's own steps: what each takes, and what it leaves.
-/
module

public import proofs.«01_k».proof.Proof.Steps
public import Idealize.ShloMosaic.Lib.Pipeline.Value
public import Idealize.ShloMosaic.Lib.MemrefSat

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × (Fin 12 ⊕ Fin 12) → ℕ)

/-! ## What the steps hold -/

/-- A block of device `c` owned whole, at some contents. -/
def any {sp : Space} {s : Shape} {e : EltTy} (c : Dev nD) (M : Memref sig .tc sp s e) : sProp 𝕄 := iprop(∃ X : s.Idx → Elt F e, own c M fullShare X)

theorem any_of {sp : Space} {s : Shape} {e : EltTy} (c : Dev nD) (M : Memref sig .tc sp s e) (X : s.Idx → Elt F e) :
    (own c M fullShare X : sProp 𝕄) ⊢ any c M := by
  unfold any; iintro H; iexists X; iexact H

/-- Row block `k` of the input rows, and quarter `k` of the input columns. -/
def xr (c : Dev nD) (k : Fin 4) : FVec F S256x4096 .f32 := fun i => xIn m c ((rowR k).emb i)
def wr (c : Dev nD) (k : Fin 4) : FVec F S1024x2048 .f32 := fun i => wIn m c ((quartR k).emb i)
/-- Quarter `k` of the narrowed columns. -/
def wb (c : Dev nD) (k : Fin 4) : FVec F S1024x2048 .bf16 := fun i => wNar m c ((quartR k).emb i)

/-- The narrowed columns, read whole. -/
def wbAll : Memref sig .tc .vmem S4096x2048 .bf16 :=
  (Memref.whole cc0_scratch0).slice (Rect.unit (s := S4096x2048) ![0, 0] S4096x2048.size inb_S4096x2048_S4096x2048_0_0) (fun _ => rfl)

/-- A semaphore of device `c` at zero. -/
abbrev zero (c : Dev nD) (q : DmaSem sig) : sProp 𝕄 := semVal ((c : Thread nD τ), .dma q) 0

/-- A row block of `x` on its way in, -/
def flX (c : Dev nD) (k : Fin 4) (s : Fin 2) : sProp 𝕄 :=
  Fl c (cpS s) (xtmp s).view.dmaCredit iprop(own c (xtmp s) fullShare (xr m c k) ∗ own c (xRow k) fullShare (xr m c k))
/-- a quarter of `w`, -/
def flW (c : Dev nD) (k : Fin 4) (s : Fin 2) : sProp 𝕄 :=
  Fl c (stS s) (wtmp s).view.dmaCredit iprop(own c (wtmp s) fullShare (wr m c k) ∗ own c (wQuart k) fullShare (wr m c k))
/-- the received row block `k` of device `d`'s rows on its way to the stage, -/
def flS (c : Dev nD) (a : Fin 3) (k : Fin 4) (s : Fin 2) (d : Dev nD) (q : PosShare TreeShare) : sProp 𝕄 :=
  Fl c (cpS s) (xstage s).view.dmaCredit iprop(own c (xstage s) fullShare (xb m d k) ∗ own c (commM a k) q (xb m d k))
/-- a result block on its way out. -/
def flO (c : Dev nD) (s : Fin 2) (d : Dev nD) (k : Fin 4) : sProp 𝕄 :=
  Fl c (stS s) (outM d k).view.dmaCredit iprop(own c (outM d k) fullShare (outB m c d k) ∗ own c (obuf s) fullShare (outB m c d k))

theorem pay1_eq (c : Dev nD) (k : Fin 4) (v : FVec F S1x256x4096 .f32) (h : S1x256x4096.ShapeCasts S256x4096)
    (hv : shapeCast S256x4096 v h = xr m c k) : k0_pay1 v = xb m c k := by
  unfold k0_pay1
  rw [hv]
  exact shapeCast_self _ _

theorem pay5_eq (c : Dev nD) (k : Fin 4) (v : FVec F S1x1024x2048 .f32) (h : S1x1024x2048.ShapeCasts S1024x2048)
    (hv : shapeCast S1024x2048 v h = wr m c k) : k0_pay5 v = wb m c k := by
  unfold k0_pay5
  rw [hv]
  exact shapeCast_self _ _

theorem outW_eq (o : Fin 2 → ℕ) (h : ∀ a, o a + S256x2048.size a ≤ S4096x2048.size a) (d : Dev nD) (k : Fin 4)
    (ho : o = ![1024 * d.val + 256 * k.val, 0]) : outW o h = outM d k := by subst ho; rfl

variable (c : Dev nD) (Q : Post F) (rest : PP F)

/-! ## Loads and stores of the body's buffers -/

section Access
variable (k : Fin 4) (s : Fin 2) {q : PosShare TreeShare}

theorem l_xown (X : S256x4096.Idx → Elt F .bf16) {hl : (Memref.whole cc0_scratch1).view.LoadsAt (rowR k).toLoadRect} {cont : (S256x4096.Idx → Elt F .bf16) → PP F} :
    own c (xown k) q X ⊢ iprop((own c (xown k) q X -∗ WP c (cont X) Q) -∗ WP c (.op (.load (Memref.whole cc0_scratch1) (rowR k).toLoadRect hl) cont) Q) :=
  t_load c Q (M := Memref.whole cc0_scratch1) (r := rowR k) (hl := hl) (k := cont) (fun _ => rfl) q X
theorem st_xown (X w : S256x4096.Idx → Elt F .bf16) {hx : ((Memref.whole cc0_scratch1).access (rowR k)).Stores Finset.univ} {hm} :
    own c (xown k) fullShare X ⊢ iprop((own c (xown k) fullShare w -∗ WP c rest Q)
      -∗ WP c (.op (.store (Memref.whole cc0_scratch1) (rowR k) w Finset.univ hx hm) fun _ => rest) Q) :=
  t_store c Q (M := Memref.whole cc0_scratch1) (r := rowR k) (w := w) (hx := hx) (hm := hm) (k := fun _ => rest) (fun _ => rfl) X
theorem l_wbQuart (X : S1024x2048.Idx → Elt F .bf16) {hl : (Memref.whole cc0_scratch0).view.LoadsAt (quartR k).toLoadRect} {cont : (S1024x2048.Idx → Elt F .bf16) → PP F} :
    own c (wbQuart k) q X ⊢ iprop((own c (wbQuart k) q X -∗ WP c (cont X) Q) -∗ WP c (.op (.load (Memref.whole cc0_scratch0) (quartR k).toLoadRect hl) cont) Q) :=
  t_load c Q (M := Memref.whole cc0_scratch0) (r := quartR k) (hl := hl) (k := cont) (fun _ => rfl) q X
theorem st_wbQuart (X w : S1024x2048.Idx → Elt F .bf16) {hx : ((Memref.whole cc0_scratch0).access (quartR k)).Stores Finset.univ} {hm} :
    own c (wbQuart k) fullShare X ⊢ iprop((own c (wbQuart k) fullShare w -∗ WP c rest Q)
      -∗ WP c (.op (.store (Memref.whole cc0_scratch0) (quartR k) w Finset.univ hx hm) fun _ => rest) Q) :=
  t_store c Q (M := Memref.whole cc0_scratch0) (r := quartR k) (w := w) (hx := hx) (hm := hm) (k := fun _ => rest) (fun _ => rfl) X
theorem l_wbAll (X : S4096x2048.Idx → Elt F .bf16)
    {hl : (Memref.whole cc0_scratch0).view.LoadsAt (Rect.unit (s := S4096x2048) ![0, 0] S4096x2048.size inb_S4096x2048_S4096x2048_0_0).toLoadRect}
    {cont : (S4096x2048.Idx → Elt F .bf16) → PP F} :
    own c wbAll q X ⊢ iprop((own c wbAll q X -∗ WP c (cont X) Q)
      -∗ WP c (.op (.load (Memref.whole cc0_scratch0) (Rect.unit (s := S4096x2048) ![0, 0] S4096x2048.size inb_S4096x2048_S4096x2048_0_0).toLoadRect hl) cont) Q) :=
  t_load c Q (M := Memref.whole cc0_scratch0) (r := Rect.unit (s := S4096x2048) ![0, 0] S4096x2048.size inb_S4096x2048_S4096x2048_0_0) (hl := hl) (k := cont) (fun _ => rfl) q X
theorem l_xtmp (Y : S256x4096.Idx → Elt F .f32) {hl : (Memref.whole cc0_scratch2).view.LoadsAt (xslotR s).toLoadRect} {cont : (S1x256x4096.Idx → Elt F .f32) → PP F} :
    own c (xtmp s) q Y ⊢ iprop((∀ v : S1x256x4096.Idx → Elt F .f32, ⌜shapeCast S256x4096 v shapeCasts_S1x256x4096_S256x4096 = Y⌝ -∗ own c (xtmp s) q Y -∗ WP c (cont v) Q)
      -∗ WP c (.op (.load (Memref.whole cc0_scratch2) (xslotR s).toLoadRect hl) cont) Q) :=
  t_load_sq c Q (M := Memref.whole cc0_scratch2) (r := xslotR s) (hq := squeezes_S1x256x4096_S256x4096) (hl := hl) (k := cont) (fun _ => rfl) shapeCasts_S1x256x4096_S256x4096 q Y
theorem l_xstage (Y : S256x4096.Idx → Elt F .bf16) {hl : (Memref.whole cc0_scratch4).view.LoadsAt (xslotR s).toLoadRect} {cont : (S1x256x4096.Idx → Elt F .bf16) → PP F} :
    own c (xstage s) q Y ⊢ iprop((∀ v : S1x256x4096.Idx → Elt F .bf16, ⌜shapeCast S256x4096 v shapeCasts_S1x256x4096_S256x4096 = Y⌝ -∗ own c (xstage s) q Y -∗ WP c (cont v) Q)
      -∗ WP c (.op (.load (Memref.whole cc0_scratch4) (xslotR s).toLoadRect hl) cont) Q) :=
  t_load_sq c Q (M := Memref.whole cc0_scratch4) (r := xslotR s) (hq := squeezes_S1x256x4096_S256x4096) (hl := hl) (k := cont) (fun _ => rfl) shapeCasts_S1x256x4096_S256x4096 q Y
theorem l_wtmp (Y : S1024x2048.Idx → Elt F .f32) {hl : (Memref.whole cc0_scratch3).view.LoadsAt (wslotR s).toLoadRect} {cont : (S1x1024x2048.Idx → Elt F .f32) → PP F} :
    own c (wtmp s) q Y ⊢ iprop((∀ v : S1x1024x2048.Idx → Elt F .f32, ⌜shapeCast S1024x2048 v shapeCasts_S1x1024x2048_S1024x2048 = Y⌝ -∗ own c (wtmp s) q Y -∗ WP c (cont v) Q)
      -∗ WP c (.op (.load (Memref.whole cc0_scratch3) (wslotR s).toLoadRect hl) cont) Q) :=
  t_load_sq c Q (M := Memref.whole cc0_scratch3) (r := wslotR s) (hq := squeezes_S1x1024x2048_S1024x2048) (hl := hl) (k := cont) (fun _ => rfl) shapeCasts_S1x1024x2048_S1024x2048 q Y
theorem l_obuf (Y : S256x2048.Idx → Elt F .f32) {hl : (Memref.whole cc0_scratch5).view.LoadsAt (oslotR s).toLoadRect} {cont : (S1x256x2048.Idx → Elt F .f32) → PP F} :
    own c (obuf s) q Y ⊢ iprop((∀ v : S1x256x2048.Idx → Elt F .f32, ⌜shapeCast S256x2048 v shapeCasts_S1x256x2048_S256x2048 = Y⌝ -∗ own c (obuf s) q Y -∗ WP c (cont v) Q)
      -∗ WP c (.op (.load (Memref.whole cc0_scratch5) (oslotR s).toLoadRect hl) cont) Q) :=
  t_load_sq c Q (M := Memref.whole cc0_scratch5) (r := oslotR s) (hq := squeezes_S1x256x2048_S256x2048) (hl := hl) (k := cont) (fun _ => rfl) shapeCasts_S1x256x2048_S256x2048 q Y
theorem st_obuf (Y : S256x2048.Idx → Elt F .f32) (w : S1x256x2048.Idx → Elt F .f32) {hx : ((Memref.whole cc0_scratch5).access (oslotR s)).Stores Finset.univ} {hm} :
    own c (obuf s) fullShare Y ⊢ iprop((own c (obuf s) fullShare (shapeCast S256x2048 w shapeCasts_S1x256x2048_S256x2048) -∗ WP c rest Q)
      -∗ WP c (.op (.store (Memref.whole cc0_scratch5) (oslotR s) w Finset.univ hx hm) fun _ => rest) Q) :=
  t_store_sq c Q (M := Memref.whole cc0_scratch5) (r := oslotR s) (hq := squeezes_S1x256x2048_S256x2048) (w := w) (hx := hx) (hm := hm) (k := fun _ => rest) (fun _ => rfl) shapeCasts_S1x256x2048_S256x2048 Y

end Access

/-! ## Rows of `x` -/

theorem s_inX (k : Fin 4) (s : Fin 2) :
    own c (xRow k) fullShare (xr m c k)
      ⊢ iprop(any c (xtmp s) -∗ zero c (cpS s) -∗ (flX m c k s -∗ WP c rest Q) -∗ WP c (inX k s rest) Q) := by
  unfold any flX inX
  iintro Hx ⟨%Y, Ht⟩ Hz Hk
  iapply (t_copy c Q (View.dmaCredit_pos _ (by decide)) fullShare (xr m c k) Y) $$ [Hx Ht Hz]
  · isplitl [Hx]; · iexact Hx
    isplitl [Ht]; · iexact Ht
    iexact Hz
  iexact Hk

/-- A row block that has arrived is narrowed into the own rows. -/
theorem s_loadX (k : Fin 4) (s : Fin 2) (l : List (Fin 12)) (h : ∀ i ∈ l, lvQ (cpS s) < lvQ (rcvS i)) :
    recs m K ⊢ iprop(flX m c k s -∗ owesL c l -∗ any c (xown k)
      -∗ (own c (xown k) fullShare (xb m c k) -∗ own c (xRow k) fullShare (xr m c k) -∗ any c (xtmp s) -∗ zero c (cpS s) -∗ owesL c l -∗ WP c rest Q)
      -∗ WP c (waitX k s (castX k s rest)) Q) := by
  unfold any
  iintro #Hrec HF HO ⟨%Y, Hown⟩ Hk
  unfold flX waitX
  iapply (t_wait c Q _ rfl _ l h) $$ [HF HO]
  · isplitr; · unfold recs; icases Hrec with ⟨-, -, #H⟩; iexact H
    isplitl [HF]; · iexact HF
    iexact HO
  iintro ⟨Ht, Hx⟩ Hz HO
  unfold castX
  iapply (l_xtmp c Q s (xr m c k)) $$ Ht
  iintro %v %hv Ht
  iapply (l_xown c Q k Y) $$ Hown
  iintro Hown
  iapply (st_xown c Q rest k Y _) $$ Hown
  iintro Hown
  rw [pay1_eq m c k v _ hv]
  iapply Hk $$ Hown Hx [Ht] Hz HO
  iexists _; iexact Ht

/-! ## Columns of `w` -/

theorem s_inW (k : Fin 4) (s : Fin 2) :
    own c (wQuart k) fullShare (wr m c k)
      ⊢ iprop(any c (wtmp s) -∗ zero c (stS s) -∗ (flW m c k s -∗ WP c rest Q) -∗ WP c (inW k s rest) Q) := by
  unfold any flW inW
  iintro Hx ⟨%Y, Ht⟩ Hz Hk
  iapply (t_copy c Q (View.dmaCredit_pos _ (by decide)) fullShare (wr m c k) Y) $$ [Hx Ht Hz]
  · isplitl [Hx]; · iexact Hx
    isplitl [Ht]; · iexact Ht
    iexact Hz
  iexact Hk

/-- A quarter of the columns that has arrived is narrowed. -/
theorem s_loadW (k : Fin 4) (s : Fin 2) (l : List (Fin 12)) (h : ∀ i ∈ l, lvQ (stS s) < lvQ (rcvS i)) :
    recs m K ⊢ iprop(flW m c k s -∗ owesL c l -∗ any c (wbQuart k)
      -∗ (own c (wbQuart k) fullShare (wb m c k) -∗ own c (wQuart k) fullShare (wr m c k) -∗ any c (wtmp s) -∗ zero c (stS s) -∗ owesL c l -∗ WP c rest Q)
      -∗ WP c (waitW k s (castW k s rest)) Q) := by
  unfold any
  iintro #Hrec HF HO ⟨%Y, Hown⟩ Hk
  unfold flW waitW
  iapply (t_wait c Q _ rfl _ l h) $$ [HF HO]
  · isplitr; · unfold recs; icases Hrec with ⟨-, -, #H⟩; iexact H
    isplitl [HF]; · iexact HF
    iexact HO
  iintro ⟨Ht, Hx⟩ Hz HO
  unfold castW
  iapply (l_wtmp c Q s (wr m c k)) $$ Ht
  iintro %v %hv Ht
  iapply (l_wbQuart c Q k Y) $$ Hown
  iintro Hown
  iapply (st_wbQuart c Q rest k Y _) $$ Hown
  iintro Hown
  rw [pay5_eq m c k v _ hv]
  iapply Hk $$ Hown Hx [Ht] Hz HO
  iexists _; iexact Ht

/-! ## Transfers -/

theorem s_sendHop (i : Fin 12) (hi : i.val < 8) (k : Fin 4) (hk : k = chK i) (q : PosShare TreeShare) (hq : q = shr i) (n : Dev nD) (hn : n = tgt c i)
    (l : List (Fin 12)) :
    recs m K ⊢ iprop(sendR c i -∗ own c (xown k) q (xb m c k) -∗ owesL c (i :: l)
      -∗ (cred (tallyAt (sndC c i) () N) -∗ owesL c l -∗ WP c rest Q) -∗ WP c (sendHop i n rest) Q) := by
  subst hk; subst hq
  have hs : srcDev c i = c := if_pos hi
  iintro #Hrec HS Hx HO Hk
  unfold sendHop
  iapply (t_send c Q m K i n hn (shr i) (xb m c (chK i)) (by rw [hs]) (by unfold sendPay; rw [if_pos hi, hs]) l) $$ [HS Hx HO]
  · isplitr; · iexact Hrec
    isplitl [HS]; · iexact HS
    isplitl [Hx]; · iexact Hx
    iexact HO
  iexact Hk

theorem s_sendFwd (i : Fin 12) (hi : ¬ i.val < 8) (k : Fin 4) (hk : k = chK i) (a : Fin 3) (ha : a = fwdA (chK i)) (q : PosShare TreeShare) (hq : q = shr i)
    (n : Dev nD) (hn : n = tgt c i) (l : List (Fin 12)) (d : Dev nD) (hd : d = srcDev c i) :
    recs m K ⊢ iprop(sendR c i -∗ own c (commM a k) q (xb m d k) -∗ owesL c (i :: l)
      -∗ (cred (tallyAt (sndC c i) () N) -∗ owesL c l -∗ WP c rest Q) -∗ WP c (sendFwd i n rest) Q) := by
  subst hd; subst ha; subst hk; subst hq
  iintro #Hrec HS Hx HO Hk
  unfold sendFwd
  iapply (t_send c Q m K i n hn (shr i) (xb m (srcDev c i) (chK i)) rfl (by unfold sendPay; rw [if_neg hi]) l) $$ [HS Hx HO]
  · isplitr; · iexact Hrec
    isplitl [HS]; · iexact HS
    isplitl [Hx]; · iexact Hx
    iexact HO
  iexact Hk

/-- What device `c` holds to wait for channel `i`'s transfer to arrive. -/
def recvR (c : Dev nD) (i : Fin 12) : sProp 𝕄 := iprop(cred (tallyAt (rcvC c i) () N) ∗ atPos ER (rcvC c i) 0 ∅ 0)

theorem s_recvHop (i : Fin 12) (a : Fin 3) (ha : a = chA i) (k : Fin 4) (hk : k = chK i) (l : List (Fin 12)) (h : ∀ j ∈ l, lvQ (rcvS i) < lvQ (rcvS j)) (d : Dev nD) (hd : d = orig c i) :
    recs m K ⊢ iprop(recvR c i -∗ owesL c l
      -∗ (own c (commM a k) fullShare (xb m d k) -∗ zero c (rcvS i) -∗ owesL c l -∗ WP c rest Q)
      -∗ WP c (recvHop i rest) Q) := by
  subst hd; subst ha; subst hk
  unfold recvR
  iintro #Hrec ⟨Hc, Ha⟩ HO Hk
  unfold recvHop
  iapply (t_recv c Q m K (src := xown (chK i)) (dst := commM (chA i) (chK i)) i rfl l h) $$ [Hc Ha HO]
  · isplitr; · iexact Hrec
    isplitl [Hc]; · iexact Hc
    isplitl [Ha]; · iexact Ha
    iexact HO
  iexact Hk

theorem s_recvFwd (i : Fin 12) (a : Fin 3) (ha : a = chA i) (k : Fin 4) (hk : k = chK i) (l : List (Fin 12)) (h : ∀ j ∈ l, lvQ (rcvS i) < lvQ (rcvS j)) (d : Dev nD) (hd : d = orig c i) :
    recs m K ⊢ iprop(recvR c i -∗ owesL c l
      -∗ (own c (commM a k) fullShare (xb m d k) -∗ zero c (rcvS i) -∗ owesL c l -∗ WP c rest Q)
      -∗ WP c (recvFwd i rest) Q) := by
  subst hd; subst ha; subst hk
  unfold recvR
  iintro #Hrec ⟨Hc, Ha⟩ HO Hk
  unfold recvFwd
  iapply (t_recv c Q m K (src := commM (fwdA (chK i)) (chK i)) (dst := commM (chA i) (chK i)) i rfl l h) $$ [Hc Ha HO]
  · isplitr; · iexact Hrec
    isplitl [Hc]; · iexact Hc
    isplitl [Ha]; · iexact Ha
    iexact HO
  iexact Hk

theorem s_sentHop (i : Fin 12) (hi : i.val < 8) (k : Fin 4) (hk : k = chK i) (q : PosShare TreeShare) (hq : q = shr i) :
    recs m K ⊢ iprop(cred (tallyAt (sndC c i) () N) -∗ atPos ER (sndC c i) 0 ∅ 0 -∗ owesL c []
      -∗ (own c (xown k) q (xb m c k) -∗ zero c (sndS i) -∗ owesL c [] -∗ WP c rest Q)
      -∗ WP c (sentHop i rest) Q) := by
  subst hk; subst hq
  have hs : srcDev c i = c := if_pos hi
  iintro #Hrec Hc Ha HO Hk
  unfold sentHop
  iapply (t_sent c Q m K (src := commM (chA i) (chK i)) (dst := xown (chK i)) i rfl) $$ [Hc Ha HO]
  · isplitr; · iexact Hrec
    isplitl [Hc]; · iexact Hc
    isplitl [Ha]; · iexact Ha
    iexact HO
  unfold sendPay
  rw [if_pos hi, hs]
  iexact Hk

theorem s_sentFwd (i : Fin 12) :
    recs m K ⊢ iprop(cred (tallyAt (sndC c i) () N) -∗ atPos ER (sndC c i) 0 ∅ 0 -∗ owesL c [] -∗ (zero c (sndS i) -∗ owesL c [] -∗ WP c rest Q) -∗ WP c (sentFwd i rest) Q) := by
  iintro #Hrec Hc Ha HO Hk
  unfold sentFwd
  iapply (t_sent c Q m K (src := commM (chA i) (chK i)) (dst := commM (fwdA (chK i)) (chK i)) i rfl) $$ [Hc Ha HO]
  · isplitr; · iexact Hrec
    isplitl [Hc]; · iexact Hc
    isplitl [Ha]; · iexact Ha
    iexact HO
  iintro - Hz HO
  iapply Hk $$ Hz HO

/-! ## Result blocks -/

theorem s_stageIn (a : Fin 3) (k : Fin 4) (s : Fin 2) (d : Dev nD) (q : PosShare TreeShare) :
    own c (commM a k) q (xb m d k)
      ⊢ iprop(any c (xstage s) -∗ zero c (cpS s) -∗ (flS m c a k s d q -∗ WP c rest Q) -∗ WP c (stageIn a k s rest) Q) := by
  unfold any flS stageIn
  iintro Hx ⟨%Y, Ht⟩ Hz Hk
  iapply (t_copy c Q (View.dmaCredit_pos _ (by decide)) q (xb m d k) Y) $$ [Hx Ht Hz]
  · isplitl [Hx]; · iexact Hx
    isplitl [Ht]; · iexact Ht
    iexact Hz
  iexact Hk

theorem s_readOwn (k : Fin 4) (q : PosShare TreeShare) (cont : FVec F S256x4096 .bf16 → PP F) :
    own c (xown k) q (xb m c k) ⊢ iprop((own c (xown k) q (xb m c k) -∗ WP c (cont (xb m c k)) Q) -∗ WP c (readOwn k cont) Q) := by
  unfold readOwn
  exact l_xown c Q k (xb m c k)

/-- A result block made and started on its way out. -/
theorem s_gemm (s : Fin 2) (o : Fin 2 → ℕ) (h : ∀ a, o a + S256x2048.size a ≤ S4096x2048.size a) (d : Dev nD) (k : Fin 4)
    (ho : o = ![1024 * d.val + 256 * k.val, 0]) :
    own c wbAll fullShare (wNar m c) ⊢ iprop(any c (obuf s) -∗ any c (outM d k) -∗ zero c (stS s)
      -∗ (own c wbAll fullShare (wNar m c) -∗ flO m c s d k -∗ WP c rest Q) -∗ WP c (gemm s o h (xb m d k) rest) Q) := by
  subst ho
  unfold gemm any flO
  iintro Hw ⟨%Y, Hb⟩ ⟨%Z, Ho⟩ Hz Hk
  iapply (l_wbAll c Q (wNar m c)) $$ Hw
  iintro Hw
  iapply (l_obuf c Q s Y) $$ Hb
  iintro %v %hv Hb
  iapply (st_obuf c Q _ s Y) $$ Hb
  iintro Hb
  iapply (t_copy c Q (src := obuf s) (dst := outM d k) (View.dmaCredit_pos _ (by decide)) fullShare (outB m c d k) Z) $$ [Hb Ho Hz]
  · isplitl [Hb]; · iexact Hb
    isplitl [Ho]; · iexact Ho
    iexact Hz
  iapply Hk; iexact Hw

/-- A result block has left. -/
theorem s_outWait (s : Fin 2) (o : Fin 2 → ℕ) (h : ∀ a, o a + S256x2048.size a ≤ S4096x2048.size a) (d : Dev nD) (k : Fin 4)
    (ho : o = ![1024 * d.val + 256 * k.val, 0]) (l : List (Fin 12)) (hl : ∀ i ∈ l, lvQ (stS s) < lvQ (rcvS i)) :
    recs m K ⊢ iprop(flO m c s d k -∗ owesL c l
      -∗ (own c (outM d k) fullShare (outB m c d k) -∗ any c (obuf s) -∗ zero c (stS s) -∗ owesL c l -∗ WP c rest Q)
      -∗ WP c (outWait s o h rest) Q) := by
  subst ho
  unfold flO outWait
  iintro #Hrec HF HO Hk
  iapply (t_wait c Q (dst := outM d k) _ rfl _ l hl) $$ [HF HO]
  · isplitr; · unfold recs; icases Hrec with ⟨-, -, #H⟩; iexact H
    isplitl [HF]; · iexact HF
    iexact HO
  iintro ⟨Ho, Hb⟩ Hz HO
  iapply Hk $$ Ho [Hb] Hz HO
  iapply (any_of c (obuf s) _); iexact Hb

/-- A staged row block is read, the result block before it has left, and its own is started on its way out. -/
theorem s_staged (a : Fin 3) (k : Fin 4) (s : Fin 2) (o o' : Fin 2 → ℕ) (h : ∀ a, o a + S256x2048.size a ≤ S4096x2048.size a)
    (h' : ∀ a, o' a + S256x2048.size a ≤ S4096x2048.size a) (d₀ : Dev nD) (k₀ : Fin 4) (ho : o = ![1024 * d₀.val + 256 * k₀.val, 0])
    (d : Dev nD) (ho' : o' = ![1024 * d.val + 256 * k.val, 0]) (q : PosShare TreeShare) (l : List (Fin 12))
    (hl : ∀ i ∈ l, lvQ (stS s) < lvQ (rcvS i)) (hl' : ∀ i ∈ l, lvQ (cpS s) < lvQ (rcvS i)) :
    recs m K ⊢ iprop(flS m c a k s d q -∗ flO m c s d₀ k₀ -∗ owesL c l -∗ own c wbAll fullShare (wNar m c) -∗ any c (outM d k)
      -∗ (flO m c s d k -∗ own c (outM d₀ k₀) fullShare (outB m c d₀ k₀) -∗ any c (xstage s) -∗ zero c (cpS s) -∗ owesL c l
          -∗ own c wbAll fullShare (wNar m c) -∗ WP c rest Q)
      -∗ WP c (stagedStep a k s o o' h h' rest) Q) := by
  unfold stagedStep stageWait flS
  iintro #Hrec HS HF HO Hw Hout Hk
  iapply (t_wait c Q _ rfl _ l hl') $$ [HS HO]
  · isplitr; · unfold recs; icases Hrec with ⟨-, -, #H⟩; iexact H
    isplitl [HS]; · iexact HS
    iexact HO
  iintro ⟨Ht, -⟩ Hz HO
  unfold readStage
  iapply (l_xstage c Q s (xb m d k)) $$ Ht
  iintro %v %hv Ht
  rw [hv]
  iapply (s_outWait m K c Q _ s o h d₀ k₀ ho l hl) $$ Hrec HF HO
  iintro Hout₀ Hb Hst HO
  iapply (s_gemm m c Q rest s o' h' d k ho') $$ Hw Hb Hout Hst
  iintro Hw HF
  iapply Hk $$ HF Hout₀ [Ht] Hz HO Hw
  iapply (any_of c (xstage s) _); iexact Ht

end Cert.Proof

end
-- ==== Proof.Pieces.lean ====
/-
  The buffers in pieces: a buffer owned whole is its row blocks, halves or quarters, and back.
-/
module

public import proofs.«01_k».proof.Proof.Macro
public import Idealize.ShloMosaic.Lib.Ring

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

instance elt_nonempty : ∀ e, Nonempty (Elt F e) := fun e => by
  cases e <;> first | exact ⟨(0 : BitVec _)⟩ | exact ⟨(Scalar.ofBits _ 0 : F _)⟩

/-! ## The pieces are disjoint and cover -/

theorem row_dj : ∀ k k' : Fin 4, k ≠ k' → Disjoint (rowR k).set (rowR k').set :=
  Ring.lead_disjoint (s := S1024x4096) (NB := 4) 0 256 _ _ _ (fun _ => rfl) rfl
theorem row_cv : (Finset.univ : Finset (Fin 4)).biUnion (fun k => (rowR k).set) = Finset.univ :=
  Ring.lead_cover (s := S1024x4096) (NB := 4) 0 256 _ _ _ (fun _ => rfl) (by decide) rfl (by decide) rfl
theorem quart_dj : ∀ k k' : Fin 4, k ≠ k' → Disjoint (quartR k).set (quartR k').set :=
  Ring.lead_disjoint (s := S4096x2048) (NB := 4) 0 1024 _ _ _ (fun _ => rfl) rfl
theorem quart_cv : (Finset.univ : Finset (Fin 4)).biUnion (fun k => (quartR k).set) = Finset.univ :=
  Ring.lead_cover (s := S4096x2048) (NB := 4) 0 1024 _ _ _ (fun _ => rfl) (by decide) rfl (by decide) rfl
theorem xslot_dj : ∀ k k' : Fin 2, k ≠ k' → Disjoint (xslotR k).set (xslotR k').set :=
  Ring.lead_disjoint (s := S2x256x4096) (NB := 2) 0 1 _ _ _ (by decide) rfl
theorem xslot_cv : (Finset.univ : Finset (Fin 2)).biUnion (fun k => (xslotR k).set) = Finset.univ :=
  Ring.lead_cover (s := S2x256x4096) (NB := 2) 0 1 _ _ _ (by decide) (by decide) rfl (by decide) rfl
theorem wslot_dj : ∀ k k' : Fin 2, k ≠ k' → Disjoint (wslotR k).set (wslotR k').set :=
  Ring.lead_disjoint (s := S2x1024x2048) (NB := 2) 0 1 _ _ _ (by decide) rfl
theorem wslot_cv : (Finset.univ : Finset (Fin 2)).biUnion (fun k => (wslotR k).set) = Finset.univ :=
  Ring.lead_cover (s := S2x1024x2048) (NB := 2) 0 1 _ _ _ (by decide) (by decide) rfl (by decide) rfl
theorem oslot_dj : ∀ k k' : Fin 2, k ≠ k' → Disjoint (oslotR k).set (oslotR k').set :=
  Ring.lead_disjoint (s := S2x256x2048) (NB := 2) 0 1 _ _ _ (by decide) rfl
theorem oslot_cv : (Finset.univ : Finset (Fin 2)).biUnion (fun k => (oslotR k).set) = Finset.univ :=
  Ring.lead_cover (s := S2x256x2048) (NB := 2) 0 1 _ _ _ (by decide) (by decide) rfl (by decide) rfl

theorem mem_outR (t : Dev nD × Fin 4) (i : S4096x2048.Idx) :
    i ∈ (outR t.1 t.2).set ↔ 1024 * t.1.val + 256 * t.2.val ≤ (i 0).val ∧ (i 0).val < 1024 * t.1.val + 256 * t.2.val + 256 := by
  unfold outR
  rw [Rect.mem_set_unit]
  constructor
  · intro h; exact h 0
  · intro h a
    match a with
    | 0 => exact h
    | 1 => exact ⟨Nat.zero_le _, by have := (i 1).isLt; change _ < 0 + 2048; change (i 1).val < 2048 at this; omega⟩

theorem out_dj (t t' : Dev nD × Fin 4) (h : t ≠ t') : Disjoint (outR t.1 t.2).set (outR t'.1 t'.2).set := by
  rw [Finset.disjoint_left]
  intro i h1 h2
  rw [mem_outR] at h1 h2
  have := t.2.isLt; have := t'.2.isLt
  exact h (Prod.ext (Fin.ext (by omega)) (Fin.ext (by omega)))

theorem out_cv : (Finset.univ : Finset (Dev nD × Fin 4)).biUnion (fun t => (outR t.1 t.2).set) = Finset.univ := by
  ext i
  simp only [Finset.mem_biUnion, Finset.mem_univ, true_and, iff_true]
  have hi : (i 0).val < 4096 := (i 0).isLt
  have hd : (i 0).val / 1024 < nD := by change _ < 4; omega
  exact ⟨(⟨(i 0).val / 1024, hd⟩, ⟨(i 0).val % 1024 / 256, by omega⟩), (mem_outR _ _).mpr ⟨by dsimp only; omega, by dsimp only; omega⟩⟩

theorem mem_commR (t : Fin 3 × Fin 4) (i : S3x1024x4096.Idx) :
    i ∈ (commR t.1 t.2).set ↔ (i 0).val = t.1.val ∧ 256 * t.2.val ≤ (i 1).val ∧ (i 1).val < 256 * t.2.val + 256 := by
  unfold commR
  rw [Rect.mem_set_unit]
  constructor
  · intro h
    have h0 := h 0; have h1 := h 1
    change t.1.val ≤ (i 0).val ∧ (i 0).val < t.1.val + 1 at h0
    exact ⟨by omega, h1⟩
  · intro h a
    match a with
    | 0 => change t.1.val ≤ (i 0).val ∧ (i 0).val < t.1.val + 1; omega
    | 1 => exact h.2
    | 2 => exact ⟨Nat.zero_le _, by have := (i 2).isLt; change _ < 0 + 4096; change (i 2).val < 4096 at this; omega⟩

theorem comm_dj (t t' : Fin 3 × Fin 4) (h : t ≠ t') : Disjoint (commR t.1 t.2).set (commR t'.1 t'.2).set := by
  rw [Finset.disjoint_left]
  intro i h1 h2
  rw [mem_commR] at h1 h2
  exact h (Prod.ext (Fin.ext (by omega)) (Fin.ext (by omega)))

theorem comm_cv : (Finset.univ : Finset (Fin 3 × Fin 4)).biUnion (fun t => (commR t.1 t.2).set) = Finset.univ := by
  ext i
  simp only [Finset.mem_biUnion, Finset.mem_univ, true_and, iff_true]
  have h0 : (i 0).val < 3 := (i 0).isLt
  have h1 : (i 1).val < 1024 := (i 1).isLt
  exact ⟨(⟨(i 0).val, h0⟩, ⟨(i 1).val / 256, by omega⟩), (mem_commR _ _).mpr ⟨rfl, by dsimp only; omega, by dsimp only; omega⟩⟩

/-! ## Splitting and joining -/

section Generic

theorem big4 (P : Fin 4 → sProp 𝕄) : bigSep Finset.univ P = iprop(P 0 ∗ P 1 ∗ P 2 ∗ P 3) := by
  rw [show (Finset.univ : Finset (Fin 4)) = insert 0 (insert 1 (insert 2 {3})) by decide, bigSep_insert (by decide),
    bigSep_insert (by decide), bigSep_insert (by decide), bigSep_singleton]
  rfl
theorem big2 (P : Fin 2 → sProp 𝕄) : bigSep Finset.univ P = iprop(P 0 ∗ P 1) := by
  rw [show (Finset.univ : Finset (Fin 2)) = insert 0 {1} by decide, bigSep_insert (by decide), bigSep_singleton]
  rfl
theorem big1 (P : Unit → sProp 𝕄) : bigSep Finset.univ P = P () := by
  rw [show (Finset.univ : Finset Unit) = {()} by decide, bigSep_singleton]

/-- The four devices, seen from one of them. -/
theorem bigDev (c : Dev nD) (P : Dev nD → sProp 𝕄) : bigSep Finset.univ P = iprop(P c ∗ P (lf c) ∗ P (rt c) ∗ P (op c)) := by
  have h : ∀ c : Dev nD, (Finset.univ : Finset (Dev nD)) = insert c (insert (lf c) (insert (rt c) {op c})) := by decide
  have h1 : ∀ c : Dev nD, c ∉ insert (lf c) (insert (rt c) {op c} : Finset (Dev nD)) := by decide
  have h2 : ∀ c : Dev nD, lf c ∉ (insert (rt c) {op c} : Finset (Dev nD)) := by decide
  have h3 : ∀ c : Dev nD, rt c ∉ ({op c} : Finset (Dev nD)) := by decide
  rw [h c, bigSep_insert (h1 c), bigSep_insert (h2 c), bigSep_insert (h3 c), bigSep_singleton]
  rfl

variable (c : Dev nD)

section Pieces
variable {sp : Space} {s : Shape} {e : EltTy} (M : Memref sig .tc sp s e) {T : Type} [Fintype T] [DecidableEq T] (r : T → Rect s)
  (hr : ∀ t a, (r t).stride a = 1) (hd : ∀ t t', t ≠ t' → Disjoint (r t).set (r t').set)
  (hcov : (Finset.univ : Finset T).biUnion (fun t => (r t).set) = Finset.univ)

/-- A buffer owned at any contents is owned with nothing asked of them. -/
theorem any_eq : (any c M : sProp 𝕄) ⊣⊢ ownsSat (c : Thread nD τ) M fullShare (fun _ => True) :=
  (ownsSat_true (c : Thread nD τ) M fullShare).symm

include hd hcov
/-- A buffer owned at any contents is its pieces at any contents, -/
theorem any_split : (any c M : sProp 𝕄) ⊢ bigSep Finset.univ fun t => any c (M.slice (r t) (hr t)) := by
  have h := ownsSat_rects (Name := ℕ) (U := UU) (Lvl := ℕ) (Ix := Unit) (Val := Elt F) (c : Thread nD τ) M fullShare r hr hd hcov (fun _ _ => True)
  refine (any_eq c M).1.trans (BIBase.Entails.trans ?_ (h.trans (bigSep_mono fun t _ => (any_eq c _).2)))
  exact ownsSat_mono _ _ _ fun X _ _ => trivial

/-- and back. -/
theorem any_join : (bigSep Finset.univ fun t => any c (M.slice (r t) (hr t))) ⊢ (any c M : sProp 𝕄) := by
  have h := ownsSat_of_rects (Name := ℕ) (U := UU) (Lvl := ℕ) (Ix := Unit) (Val := Elt F) (c : Thread nD τ) M fullShare r hr hd hcov (fun _ _ => True)
  exact ((bigSep_mono fun t _ => (any_eq c _).1).trans h).trans (ownsSat_any _ _ _)
end Pieces

section Unit
variable {sp : Space} {s s' : Shape} {e : EltTy} (M : Memref sig .tc sp s e) (r : Rect s) (hr : ∀ a, r.stride a = 1) (hq : r.shape.Squeezes s')

/-- Dropping a piece's unit axes, and putting them back. -/
theorem any_sq : (any c (M.slice r hr) : sProp 𝕄) ⊢ any c ((M.slice r hr).squeeze s' hq) := by
  unfold any own owns
  iintro ⟨%X, %f, -, H⟩
  iexists _; iexists f
  isplitr; · ipureintro; rfl
  rw [show ((M.slice r hr).squeeze s' hq).view.set = (M.slice r hr).view.set from View.set_reshape _ _]
  iexact H
theorem any_unsq : (any c ((M.slice r hr).squeeze s' hq) : sProp 𝕄) ⊢ any c (M.slice r hr) := by
  unfold any own owns
  iintro ⟨%X, %f, -, H⟩
  iexists _; iexists f
  isplitr; · ipureintro; rfl
  rw [show ((M.slice r hr).squeeze s' hq).view.set = (M.slice r hr).view.set from View.set_reshape _ _]
  iexact H
end Unit

/-- A whole buffer at any contents. -/
theorem any_whole (b : Ref sig .tc) : (any c (Memref.whole b) : sProp 𝕄)
    ⊣⊢ iprop(∃ f : Buf (Elt F) ((c : Thread nD τ).loc b), ((c : Thread nD τ).loc b) ↦{fullShare} f) := by
  unfold any own
  constructor
  · iintro ⟨%X, H⟩
    iexists X
    iapply (Entails.of_eq (owns_whole (c : Thread nD τ) b fullShare X)); iexact H
  · iintro ⟨%f, H⟩
    iexists f
    iapply (Entails.of_eq (owns_whole (c : Thread nD τ) b fullShare f).symm); iexact H

/-- A whole buffer at contents is its pieces at the contents' parts, and back. -/
theorem whole_cut (b : Ref sig .tc) (f : b.ty.Contents (Elt F)) {T : Type} [Fintype T] [DecidableEq T] (r : T → Rect b.ty.shape)
    (hr : ∀ t a, (r t).stride a = 1) (hd : ∀ t t', t ≠ t' → Disjoint (r t).set (r t').set)
    (hcov : (Finset.univ : Finset T).biUnion (fun t => (r t).set) = Finset.univ) :
    (((c : Thread nD τ).loc b) ↦{fullShare} f : sProp 𝕄) ⊢ bigSep Finset.univ fun t => own c ((Memref.whole b).slice (r t) (hr t)) fullShare (fun j => f ((r t).emb j)) :=
  (Entails.of_eq (owns_whole (c : Thread nD τ) b fullShare f).symm).trans (owns_rects (c : Thread nD τ) (Memref.whole b) fullShare r hr hd hcov f)
theorem whole_glue (b : Ref sig .tc) (f : b.ty.Contents (Elt F)) {T : Type} [Fintype T] [DecidableEq T] (r : T → Rect b.ty.shape)
    (hr : ∀ t a, (r t).stride a = 1) (hd : ∀ t t', t ≠ t' → Disjoint (r t).set (r t').set)
    (hcov : (Finset.univ : Finset T).biUnion (fun t => (r t).set) = Finset.univ) :
    (bigSep Finset.univ fun t => own c ((Memref.whole b).slice (r t) (hr t)) fullShare (fun j => f ((r t).emb j))) ⊢ (((c : Thread nD τ).loc b) ↦{fullShare} f : sProp 𝕄) :=
  BIBase.Entails.trans (owns_of_rects (c : Thread nD τ) (Memref.whole b) fullShare r hr hd hcov f) (Entails.of_eq (owns_whole (c : Thread nD τ) b fullShare f))

end Generic

section Buffers
variable (c : Dev nD)

/-- The own rows' buffer, -/
theorem cut_xown : (any c (Memref.whole cc0_scratch1) : sProp 𝕄) ⊢ bigSep Finset.univ fun k => any c (xown k) :=
  any_split c _ rowR (fun _ _ => rfl) row_dj row_cv
theorem glue_xown : (bigSep Finset.univ fun k => any c (xown k)) ⊢ (any c (Memref.whole cc0_scratch1) : sProp 𝕄) :=
  any_join c _ rowR (fun _ _ => rfl) row_dj row_cv
/-- the narrowed columns' buffer, -/
theorem cut_wb : (any c (Memref.whole cc0_scratch0) : sProp 𝕄) ⊢ bigSep Finset.univ fun k => any c (wbQuart k) :=
  any_split c _ quartR (fun _ _ => rfl) quart_dj quart_cv
/-- the double buffers, -/
theorem cut_xtmp : (any c (Memref.whole cc0_scratch2) : sProp 𝕄) ⊢ bigSep Finset.univ fun s => any c (xtmp s) :=
  (any_split c _ xslotR (fun _ _ => rfl) xslot_dj xslot_cv).trans (bigSep_mono fun s _ => any_sq c _ _ (fun _ => rfl) squeezes_S1x256x4096_S256x4096)
theorem glue_xtmp : (bigSep Finset.univ fun s => any c (xtmp s)) ⊢ (any c (Memref.whole cc0_scratch2) : sProp 𝕄) :=
  (bigSep_mono fun s _ => any_unsq c _ _ (fun _ => rfl) squeezes_S1x256x4096_S256x4096).trans (any_join c _ xslotR (fun _ _ => rfl) xslot_dj xslot_cv)
theorem cut_wtmp : (any c (Memref.whole cc0_scratch3) : sProp 𝕄) ⊢ bigSep Finset.univ fun s => any c (wtmp s) :=
  (any_split c _ wslotR (fun _ _ => rfl) wslot_dj wslot_cv).trans (bigSep_mono fun s _ => any_sq c _ _ (fun _ => rfl) squeezes_S1x1024x2048_S1024x2048)
theorem glue_wtmp : (bigSep Finset.univ fun s => any c (wtmp s)) ⊢ (any c (Memref.whole cc0_scratch3) : sProp 𝕄) :=
  (bigSep_mono fun s _ => any_unsq c _ _ (fun _ => rfl) squeezes_S1x1024x2048_S1024x2048).trans (any_join c _ wslotR (fun _ _ => rfl) wslot_dj wslot_cv)
theorem cut_xstage : (any c (Memref.whole cc0_scratch4) : sProp 𝕄) ⊢ bigSep Finset.univ fun s => any c (xstage s) :=
  (any_split c _ xslotR (fun _ _ => rfl) xslot_dj xslot_cv).trans (bigSep_mono fun s _ => any_sq c _ _ (fun _ => rfl) squeezes_S1x256x4096_S256x4096)
theorem glue_xstage : (bigSep Finset.univ fun s => any c (xstage s)) ⊢ (any c (Memref.whole cc0_scratch4) : sProp 𝕄) :=
  (bigSep_mono fun s _ => any_unsq c _ _ (fun _ => rfl) squeezes_S1x256x4096_S256x4096).trans (any_join c _ xslotR (fun _ _ => rfl) xslot_dj xslot_cv)
theorem cut_obuf : (any c (Memref.whole cc0_scratch5) : sProp 𝕄) ⊢ bigSep Finset.univ fun s => any c (obuf s) :=
  (any_split c _ oslotR (fun _ _ => rfl) oslot_dj oslot_cv).trans (bigSep_mono fun s _ => any_sq c _ _ (fun _ => rfl) squeezes_S1x256x2048_S256x2048)
theorem glue_obuf : (bigSep Finset.univ fun s => any c (obuf s)) ⊢ (any c (Memref.whole cc0_scratch5) : sProp 𝕄) :=
  (bigSep_mono fun s _ => any_unsq c _ _ (fun _ => rfl) squeezes_S1x256x2048_S256x2048).trans (any_join c _ oslotR (fun _ _ => rfl) oslot_dj oslot_cv)
/-- the received copies, -/
theorem cut_comm : (any c (Memref.whole main_v1_1) : sProp 𝕄) ⊢ bigSep Finset.univ fun t : Fin 3 × Fin 4 => any c (commM t.1 t.2) :=
  (any_split c _ (fun t : Fin 3 × Fin 4 => commR t.1 t.2) (fun _ _ => rfl) comm_dj comm_cv).trans (bigSep_mono fun t _ => any_sq c _ _ (fun _ => rfl) squeezes_S1x256x4096_S256x4096)
/-- and the result. -/
theorem cut_out : (any c (Memref.whole main_v1_0) : sProp 𝕄) ⊢ bigSep Finset.univ fun t : Dev nD × Fin 4 => any c (outM t.1 t.2) :=
  any_split c _ (fun t : Dev nD × Fin 4 => outR t.1 t.2) (fun _ _ => rfl) out_dj out_cv
/-- The result's blocks together: the result at contents whose blocks are those. -/
theorem glue_out : (bigSep Finset.univ fun t : Dev nD × Fin 4 => own c (outM t.1 t.2) fullShare (outB m c t.1 t.2))
    ⊢ (iprop(∃ X : FVec F S4096x2048 .f32, ⌜∀ d k, (fun j => X ((outR d k).emb j)) = outB m c d k⌝
        ∗ (((c : Thread nD τ).loc main_v1_0) ↦{fullShare} X)) : sProp 𝕄) := by
  have h := ownsSat_of_rects (Name := ℕ) (U := UU) (Lvl := ℕ) (Ix := Unit) (Val := Elt F) (c : Thread nD τ) (Memref.whole main_v1_0) fullShare
    (fun t : Dev nD × Fin 4 => outR t.1 t.2) (fun _ _ => rfl) out_dj out_cv (fun t => (· = outB m c t.1 t.2))
  refine BIBase.Entails.trans (BIBase.Entails.trans ?_ (h.trans (ownsSat_elim _ _ _ _))) ?_
  · exact bigSep_mono fun t _ => ownsSat_intro _ _ _ rfl
  · iintro ⟨%X, %hX, H⟩
    iexists X
    isplitr; · ipureintro; exact fun d k => hX (d, k)
    rw [← owns_whole (c : Thread nD τ) main_v1_0 fullShare X]
    iexact H

/-- The inputs in their pieces, and whole. -/
theorem cut_x : (((c : Thread nD τ).loc main_arg0) ↦{fullShare} xIn m c : sProp 𝕄) ⊢ bigSep Finset.univ fun k => own c (xRow k) fullShare (xr m c k) :=
  whole_cut c main_arg0 (xIn m c) rowR (fun _ _ => rfl) row_dj row_cv
theorem glue_x : (bigSep Finset.univ fun k => own c (xRow k) fullShare (xr m c k)) ⊢ (((c : Thread nD τ).loc main_arg0) ↦{fullShare} xIn m c : sProp 𝕄) :=
  whole_glue c main_arg0 (xIn m c) rowR (fun _ _ => rfl) row_dj row_cv
theorem cut_w : (((c : Thread nD τ).loc main_arg1) ↦{fullShare} wIn m c : sProp 𝕄) ⊢ bigSep Finset.univ fun k => own c (wQuart k) fullShare (wr m c k) :=
  whole_cut c main_arg1 (wIn m c) quartR (fun _ _ => rfl) quart_dj quart_cv
theorem glue_w : (bigSep Finset.univ fun k => own c (wQuart k) fullShare (wr m c k)) ⊢ (((c : Thread nD τ).loc main_arg1) ↦{fullShare} wIn m c : sProp 𝕄) :=
  whole_glue c main_arg1 (wIn m c) quartR (fun _ _ => rfl) quart_dj quart_cv

/-- The narrowed columns, from their quarters to the whole that is read, -/
theorem all_cv : (Finset.univ : Finset Unit).biUnion (fun _ => (Rect.unit (s := S4096x2048) ![0, 0] S4096x2048.size inb_S4096x2048_S4096x2048_0_0).set) = Finset.univ := by
  ext i
  simp only [Finset.mem_biUnion, Finset.mem_univ, true_and, iff_true]
  refine ⟨(), Rect.mem_set_unit.mpr fun a => ?_⟩
  match a with
  | 0 => exact ⟨Nat.zero_le _, by have := (i 0).isLt; change _ < 0 + 4096; change (i 0).val < 4096 at this; omega⟩
  | 1 => exact ⟨Nat.zero_le _, by have := (i 1).isLt; change _ < 0 + 2048; change (i 1).val < 2048 at this; omega⟩

theorem all_emb (i : S4096x2048.Idx) : (Rect.unit (s := S4096x2048) ![0, 0] S4096x2048.size inb_S4096x2048_S4096x2048_0_0).emb i = i := by
  funext a
  match a with
  | 0 => exact Fin.ext (by change 0 + 1 * (i 0).val = (i 0).val; omega)
  | 1 => exact Fin.ext (by change 0 + 1 * (i 1).val = (i 1).val; omega)

theorem wb_all : (bigSep Finset.univ fun k => own c (wbQuart k) fullShare (wb m c k)) ⊢ (own c wbAll fullShare (wNar m c) : sProp 𝕄) := by
  refine (owns_of_rects (Name := ℕ) (U := UU) (Lvl := ℕ) (Ix := Unit) (Val := Elt F) (c : Thread nD τ) (Memref.whole cc0_scratch0) fullShare quartR (fun _ _ => rfl) quart_dj quart_cv (wNar m c)).trans ?_
  refine (owns_rects (Name := ℕ) (U := UU) (Lvl := ℕ) (Ix := Unit) (Val := Elt F) (c : Thread nD τ) (Memref.whole cc0_scratch0) fullShare (fun _ : Unit => _) (fun _ _ => rfl) (fun _ _ h => absurd rfl h) all_cv (wNar m c)).trans ?_
  rw [big1]
  exact Entails.of_eq (congrArg (owns (c : Thread nD τ) wbAll fullShare) (funext fun i => congrArg (wNar m c) (all_emb i)))

/-- and that whole the buffer. -/
theorem glue_wb : (any c wbAll) ⊢ (any c (Memref.whole cc0_scratch0) : sProp 𝕄) := by
  refine BIBase.Entails.trans ?_ (any_join c (Memref.whole cc0_scratch0) (fun _ : Unit => _) (fun _ _ => rfl) (fun _ _ h => absurd rfl h) all_cv)
  rw [big1]
  exact .rfl

/-- The shares of an own row block: one kept, one for each neighbour. -/
theorem xown_thirds (k : Fin 4) (X : FVec F S256x4096 .bf16) : (own c (xown k) fullShare X : sProp 𝕄)
    ⊣⊢ iprop(own c (xown k) fullShare.left X ∗ own c (xown k) fullShare.right.left X ∗ own c (xown k) fullShare.right.right X) :=
  ownsSat_thirds (Val := Elt F) (c : Thread nD τ) (xown k) fullShare (· = X)
/-- The shares of a passed-on row block: one sent, one staged. -/
theorem comm_halves (a : Fin 3) (k : Fin 4) (X : FVec F S256x4096 .bf16) : (own c (commM a k) fullShare X : sProp 𝕄)
    ⊣⊢ iprop(own c (commM a k) fullShare.left X ∗ own c (commM a k) fullShare.right X) :=
  owns_halves (Val := Elt F) (c : Thread nD τ) (commM a k) fullShare X

end Buffers

end Cert.Proof

end
-- ==== Proof.Body.lean ====
/-
  The body run through: its five parts, each from what it finds to what it leaves.
-/
module

public import proofs.«01_k».proof.Proof.Pieces

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × (Fin 12 ⊕ Fin 12) → ℕ)
variable (c : Dev nD) (Q : Post F) (rest : PP F)

/-- The credit a transfer leaves for the wait on its send cell. -/
abbrev crS (c : Dev nD) (i : Fin 12) : sProp 𝕄 := cred (tallyAt (sndC c i) () N)
/-- The position at a channel's send cell. -/
abbrev atS (c : Dev nD) (i : Fin 12) : sProp 𝕄 := atPos ER (sndC c i) 0 ∅ 0
/-- A result block made. -/
abbrev done (c d : Dev nD) (k : Fin 4) : sProp 𝕄 := own c (outM d k) fullShare (outB m c d k)
/-- The kept share of an own row block. -/
abbrev kept (c : Dev nD) (k : Fin 4) : sProp 𝕄 := own c (xown k) fullShare.left (xb m c k)
/-- An input's row block or quarter. -/
abbrev inXk (c : Dev nD) (k : Fin 4) : sProp 𝕄 := own c (xRow k) fullShare (xr m c k)
abbrev inWk (c : Dev nD) (k : Fin 4) : sProp 𝕄 := own c (wQuart k) fullShare (wr m c k)

/-- The first part narrows the inputs and issues the eight transfers of the own rows. -/
theorem run_prologue (n1 n2 n3 n4 n5 n6 n7 n8 : Dev nD) (h1 : n1 = tgt c 0) (h2 : n2 = tgt c 4) (h3 : n3 = tgt c 1) (h4 : n4 = tgt c 5)
    (h5 : n5 = tgt c 2) (h6 : n6 = tgt c 6) (h7 : n7 = tgt c 3) (h8 : n8 = tgt c 7) :
    recs m K ⊢ iprop((inXk m c 0 ∗ inXk m c 1 ∗ inXk m c 2 ∗ inXk m c 3) -∗ (inWk m c 0 ∗ inWk m c 1 ∗ inWk m c 2 ∗ inWk m c 3)
      -∗ (any c (xtmp 0) ∗ any c (xtmp 1)) -∗ (any c (wtmp 0) ∗ any c (wtmp 1))
      -∗ (any c (xown 0) ∗ any c (xown 1) ∗ any c (xown 2) ∗ any c (xown 3))
      -∗ (any c (wbQuart 0) ∗ any c (wbQuart 1) ∗ any c (wbQuart 2) ∗ any c (wbQuart 3))
      -∗ (zero c (cpS 0) ∗ zero c (cpS 1)) -∗ (zero c (stS 0) ∗ zero c (stS 1))
      -∗ (sendR c 0 ∗ sendR c 1 ∗ sendR c 2 ∗ sendR c 3 ∗ sendR c 4 ∗ sendR c 5 ∗ sendR c 6 ∗ sendR c 7)
      -∗ owesL c [0, 4, 1, 5, 2, 6, 3, 7, 8, 9, 10, 11]
      -∗ ((inXk m c 0 ∗ inXk m c 1 ∗ inXk m c 2 ∗ inXk m c 3) -∗ (inWk m c 0 ∗ inWk m c 1 ∗ inWk m c 2 ∗ inWk m c 3)
        -∗ (any c (xtmp 0) ∗ any c (xtmp 1)) -∗ (any c (wtmp 0) ∗ any c (wtmp 1))
        -∗ (kept m c 0 ∗ kept m c 1 ∗ kept m c 2 ∗ kept m c 3) -∗ own c wbAll fullShare (wNar m c)
        -∗ (zero c (cpS 0) ∗ zero c (cpS 1)) -∗ (zero c (stS 0) ∗ zero c (stS 1))
        -∗ (crS c 0 ∗ crS c 1 ∗ crS c 2 ∗ crS c 3 ∗ crS c 4 ∗ crS c 5 ∗ crS c 6 ∗ crS c 7)
        -∗ owesL c [8, 9, 10, 11] -∗ WP c rest Q)
      -∗ WP c (prologue n1 n2 n3 n4 n5 n6 n7 n8 rest) Q) := by
  iintro #Hrec ⟨X0, X1, X2, X3⟩ ⟨W0, W1, W2, W3⟩ ⟨T0, T1⟩ ⟨V0, V1⟩ ⟨O0, O1, O2, O3⟩ ⟨B0, B1, B2, B3⟩ ⟨C0, C1⟩ ⟨S0, S1⟩
    ⟨D0, D1, D2, D3, D4, D5, D6, D7⟩ HO Hk
  unfold prologue
  iapply (s_inX m c Q _ 0 0) $$ X0 T0 C0
  iintro F0
  iapply (s_inX m c Q _ 1 1) $$ X1 T1 C1
  iintro F1
  iapply (s_inW m c Q _ 0 0) $$ W0 V0 S0
  iintro G0
  iapply (s_inW m c Q _ 1 1) $$ W1 V1 S1
  iintro G1
  -- row block 0
  iapply (s_loadX m K c Q _ 0 0 _ (by decide)) $$ Hrec F0 HO O0
  iintro O0 X0 T0 C0 HO
  ihave O0 := (xown_thirds c 0 _).1 $$ O0
  icases O0 with ⟨O0, R0, L0⟩
  iapply (s_inX m c Q _ 2 0) $$ X2 T0 C0
  iintro F0
  iapply (s_sendHop m K c Q _ 0 (by decide) 0 rfl fullShare.right.left rfl n1 h1 _) $$ Hrec D0 R0 HO
  iintro D0 HO
  iapply (s_sendHop m K c Q _ 4 (by decide) 0 rfl fullShare.right.right rfl n2 h2 _) $$ Hrec D4 L0 HO
  iintro D4 HO
  -- row block 1
  iapply (s_loadX m K c Q _ 1 1 _ (by decide)) $$ Hrec F1 HO O1
  iintro O1 X1 T1 C1 HO
  ihave O1 := (xown_thirds c 1 _).1 $$ O1
  icases O1 with ⟨O1, R1, L1⟩
  iapply (s_inX m c Q _ 3 1) $$ X3 T1 C1
  iintro F1
  iapply (s_sendHop m K c Q _ 1 (by decide) 1 rfl fullShare.right.left rfl n3 h3 _) $$ Hrec D1 R1 HO
  iintro D1 HO
  iapply (s_sendHop m K c Q _ 5 (by decide) 1 rfl fullShare.right.right rfl n4 h4 _) $$ Hrec D5 L1 HO
  iintro D5 HO
  -- row block 2
  iapply (s_loadX m K c Q _ 2 0 _ (by decide)) $$ Hrec F0 HO O2
  iintro O2 X2 T0 C0 HO
  ihave O2 := (xown_thirds c 2 _).1 $$ O2
  icases O2 with ⟨O2, R2, L2⟩
  iapply (s_sendHop m K c Q _ 2 (by decide) 2 rfl fullShare.right.left rfl n5 h5 _) $$ Hrec D2 R2 HO
  iintro D2 HO
  iapply (s_sendHop m K c Q _ 6 (by decide) 2 rfl fullShare.right.right rfl n6 h6 _) $$ Hrec D6 L2 HO
  iintro D6 HO
  -- row block 3
  iapply (s_loadX m K c Q _ 3 1 _ (by decide)) $$ Hrec F1 HO O3
  iintro O3 X3 T1 C1 HO
  ihave O3 := (xown_thirds c 3 _).1 $$ O3
  icases O3 with ⟨O3, R3, L3⟩
  iapply (s_sendHop m K c Q _ 3 (by decide) 3 rfl fullShare.right.left rfl n7 h7 _) $$ Hrec D3 R3 HO
  iintro D3 HO
  iapply (s_sendHop m K c Q _ 7 (by decide) 3 rfl fullShare.right.right rfl n8 h8 _) $$ Hrec D7 L3 HO
  iintro D7 HO
  -- the columns
  iapply (s_loadW m K c Q _ 0 0 _ (by decide)) $$ Hrec G0 HO B0
  iintro B0 W0 V0 S0 HO
  iapply (s_inW m c Q _ 2 0) $$ W2 V0 S0
  iintro G0
  iapply (s_loadW m K c Q _ 1 1 _ (by decide)) $$ Hrec G1 HO B1
  iintro B1 W1 V1 S1 HO
  iapply (s_inW m c Q _ 3 1) $$ W3 V1 S1
  iintro G1
  iapply (s_loadW m K c Q _ 2 0 _ (by decide)) $$ Hrec G0 HO B2
  iintro B2 W2 V0 S0 HO
  iapply (s_loadW m K c Q _ 3 1 _ (by decide)) $$ Hrec G1 HO B3
  iintro B3 W3 V1 S1 HO
  iapply Hk $$ [X0 X1 X2 X3] [W0 W1 W2 W3] [T0 T1] [V0 V1] [O0 O1 O2 O3] [B0 B1 B2 B3] [C0 C1] [S0 S1] [D0 D1 D2 D3 D4 D5 D6 D7] HO
  · iframe
  · iframe
  · iframe
  · iframe
  · iframe
  · iapply (wb_all m c)
    rw [big4]
    iframe
  · iframe
  · iframe
  · iframe

/-! ## Where the result blocks go -/

theorem off_own (r : Fin 4) : k0_off1 c (BitVec.ofNat 32 (256 * r.val)) = ![1024 * c.val + 256 * r.val, 0] := k0_off1_eq c r
theorem off_lf (r : Fin 4) : k0_off2 c (BitVec.ofNat 32 (256 * r.val)) = ![1024 * (lf c).val + 256 * r.val, 0] := k0_off2_eq c r
theorem off_rt (r : Fin 4) : k0_off3 c 1#32 (BitVec.ofNat 32 (256 * r.val)) = ![1024 * (rt c).val + 256 * r.val, 0] := k0_off3_eq c 0 r
theorem off_op (r : Fin 4) : k0_off3 c 2#32 (BitVec.ofNat 32 (256 * r.val)) = ![1024 * (op c).val + 256 * r.val, 0] := k0_off3_eq c 1 r

/-- The second part makes the result blocks of the own rows; the left neighbour's first row block arrives and is passed on. -/
theorem run_ownPart :
    recs m K ⊢ iprop((kept m c 0 ∗ kept m c 1 ∗ kept m c 2 ∗ kept m c 3) -∗ own c wbAll fullShare (wNar m c)
      -∗ (any c (obuf 0) ∗ any c (obuf 1)) -∗ (zero c (stS 0) ∗ zero c (stS 1))
      -∗ (any c (outM c 0) ∗ any c (outM c 1) ∗ any c (outM c 2) ∗ any c (outM c 3))
      -∗ (recvR c 0 ∗ sendR c 8 ∗ any c (xstage 0) ∗ zero c (cpS 0)) -∗ owesL c [8, 9, 10, 11]
      -∗ ((kept m c 0 ∗ kept m c 1 ∗ kept m c 2 ∗ kept m c 3) -∗ own c wbAll fullShare (wNar m c)
        -∗ (done m c c 0 ∗ done m c c 1) -∗ (flO m c 0 c 2 ∗ flO m c 1 c 3)
        -∗ (zero c (rcvS 0) ∗ crS c 8 ∗ flS m c 0 0 0 (lf c) fullShare.right) -∗ owesL c [9, 10, 11] -∗ WP c rest Q)
      -∗ WP c (ownPart c rest) Q) := by
  iintro #Hrec ⟨O0, O1, O2, O3⟩ HW ⟨B0, B1⟩ ⟨S0, S1⟩ ⟨Y0, Y1, Y2, Y3⟩ ⟨R0, D8, T0, C0⟩ HO Hk
  unfold ownPart
  iapply (s_readOwn m c Q 0 fullShare.left _) $$ O0
  iintro O0
  iapply (s_gemm m c Q _ 0 _ _ c 0 (off_own c 0)) $$ HW B0 Y0 S0
  iintro HW F0
  iapply (s_readOwn m c Q 1 fullShare.left _) $$ O1
  iintro O1
  iapply (s_gemm m c Q _ 1 _ _ c 1 (off_own c 1)) $$ HW B1 Y1 S1
  iintro HW F1
  iapply (s_readOwn m c Q 2 fullShare.left _) $$ O2
  iintro O2
  iapply (s_outWait m K c Q _ 0 _ _ c 0 (off_own c 0) _ (by decide)) $$ Hrec F0 HO
  iintro Y0 B0 S0 HO
  iapply (s_gemm m c Q _ 0 _ _ c 2 (off_own c 2)) $$ HW B0 Y2 S0
  iintro HW F0
  iapply (s_recvHop m K c Q _ 0 0 rfl 0 rfl _ (by decide) (lf c) rfl) $$ Hrec R0 HO
  iintro A R0 HO
  ihave A := (comm_halves c 0 0 _).1 $$ A
  icases A with ⟨Al, Ar⟩
  iapply (s_stageIn m c Q _ 0 0 0 (lf c) fullShare.right) $$ Ar T0 C0
  iintro G0
  iapply (s_sendFwd m K c Q _ 8 (by decide) 0 rfl 0 rfl fullShare.left rfl _ (Fin.ext (k0_dev9_eq c)) _ (lf c) rfl) $$ Hrec D8 Al HO
  iintro D8 HO
  iapply (s_readOwn m c Q 3 fullShare.left _) $$ O3
  iintro O3
  iapply (s_outWait m K c Q _ 1 _ _ c 1 (off_own c 1) _ (by decide)) $$ Hrec F1 HO
  iintro Y1 B1 S1 HO
  iapply (s_gemm m c Q _ 1 _ _ c 3 (off_own c 3)) $$ HW B1 Y3 S1
  iintro HW F1
  iapply Hk $$ [O0 O1 O2 O3] HW [Y0 Y1] [F0 F1] [R0 D8 G0] HO
  · iframe
  · iframe
  · iframe
  · iframe

/-- The third part makes the result blocks of the neighbours' rows, passing on three more row blocks. -/
theorem run_hopPart :
    recs m K ⊢ iprop(own c wbAll fullShare (wNar m c) -∗ (flO m c 0 c 2 ∗ flO m c 1 c 3)
      -∗ (flS m c 0 0 0 (lf c) fullShare.right ∗ any c (xstage 1) ∗ zero c (cpS 1))
      -∗ (recvR c 1 ∗ recvR c 2 ∗ recvR c 3 ∗ recvR c 4 ∗ recvR c 5 ∗ recvR c 6 ∗ recvR c 7)
      -∗ (sendR c 9 ∗ sendR c 10 ∗ sendR c 11)
      -∗ (any c (outM (lf c) 0) ∗ any c (outM (lf c) 1) ∗ any c (outM (lf c) 2) ∗ any c (outM (lf c) 3))
      -∗ (any c (outM (rt c) 0) ∗ any c (outM (rt c) 1) ∗ any c (outM (rt c) 2)) -∗ owesL c [9, 10, 11]
      -∗ (own c wbAll fullShare (wNar m c) -∗ (done m c c 2 ∗ done m c c 3)
        -∗ (done m c (lf c) 0 ∗ done m c (lf c) 1 ∗ done m c (lf c) 2) -∗ (done m c (rt c) 0 ∗ done m c (rt c) 1)
        -∗ (flO m c 0 (lf c) 3 ∗ flO m c 1 (rt c) 2) -∗ (flS m c 1 3 1 (rt c) fullShare.right ∗ any c (xstage 0) ∗ zero c (cpS 0))
        -∗ (zero c (rcvS 1) ∗ zero c (rcvS 2) ∗ zero c (rcvS 3) ∗ zero c (rcvS 4) ∗ zero c (rcvS 5) ∗ zero c (rcvS 6) ∗ zero c (rcvS 7))
        -∗ (crS c 9 ∗ crS c 10 ∗ crS c 11) -∗ owesL c [] -∗ WP c rest Q)
      -∗ WP c (hopPart c rest) Q) := by
  iintro #Hrec HW ⟨F0, F1⟩ ⟨G0, T1, C1⟩ ⟨R1, R2, R3, R4, R5, R6, R7⟩ ⟨D9, D10, D11⟩ ⟨L0, L1, L2, L3⟩ ⟨P0, P1, P2⟩ HO Hk
  unfold hopPart
  iapply (s_recvHop m K c Q _ 4 1 rfl 0 rfl _ (by decide) (rt c) rfl) $$ Hrec R4 HO
  iintro A R4 HO
  iapply (s_stageIn m c Q _ 1 0 1 (rt c) fullShare) $$ A T1 C1
  iintro G1
  iapply (s_staged m K c Q _ 0 0 0 _ _ _ _ c 2 (off_own c 2) (lf c) (off_lf c 0) fullShare.right _ (by decide) (by decide)) $$ Hrec G0 F0 HO HW L0
  iintro F0 Y2 T0 C0 HO HW
  iapply (s_recvHop m K c Q _ 1 0 rfl 1 rfl _ (by decide) (lf c) rfl) $$ Hrec R1 HO
  iintro A R1 HO
  ihave A := (comm_halves c 0 1 _).1 $$ A
  icases A with ⟨Al, Ar⟩
  iapply (s_stageIn m c Q _ 0 1 0 (lf c) fullShare.right) $$ Ar T0 C0
  iintro G0
  iapply (s_sendFwd m K c Q _ 9 (by decide) 1 rfl 0 rfl fullShare.left rfl _ (Fin.ext (k0_dev10_eq c)) _ (lf c) rfl) $$ Hrec D9 Al HO
  iintro D9 HO
  iapply (s_staged m K c Q _ 1 0 1 _ _ _ _ c 3 (off_own c 3) (rt c) (off_rt c 0) fullShare _ (by decide) (by decide)) $$ Hrec G1 F1 HO HW P0
  iintro F1 Y3 T1 C1 HO HW
  iapply (s_recvHop m K c Q _ 5 1 rfl 1 rfl _ (by decide) (rt c) rfl) $$ Hrec R5 HO
  iintro A R5 HO
  iapply (s_stageIn m c Q _ 1 1 1 (rt c) fullShare) $$ A T1 C1
  iintro G1
  iapply (s_staged m K c Q _ 0 1 0 _ _ _ _ (lf c) 0 (off_lf c 0) (lf c) (off_lf c 1) fullShare.right _ (by decide) (by decide)) $$ Hrec G0 F0 HO HW L1
  iintro F0 L0 T0 C0 HO HW
  iapply (s_recvHop m K c Q _ 2 0 rfl 2 rfl _ (by decide) (lf c) rfl) $$ Hrec R2 HO
  iintro A R2 HO
  iapply (s_stageIn m c Q _ 0 2 0 (lf c) fullShare) $$ A T0 C0
  iintro G0
  iapply (s_staged m K c Q _ 1 1 1 _ _ _ _ (rt c) 0 (off_rt c 0) (rt c) (off_rt c 1) fullShare _ (by decide) (by decide)) $$ Hrec G1 F1 HO HW P1
  iintro F1 P0 T1 C1 HO HW
  iapply (s_recvHop m K c Q _ 6 1 rfl 2 rfl _ (by decide) (rt c) rfl) $$ Hrec R6 HO
  iintro A R6 HO
  ihave A := (comm_halves c 1 2 _).1 $$ A
  icases A with ⟨Al, Ar⟩
  iapply (s_stageIn m c Q _ 1 2 1 (rt c) fullShare.right) $$ Ar T1 C1
  iintro G1
  iapply (s_sendFwd m K c Q _ 10 (by decide) 2 rfl 1 rfl fullShare.left rfl _ (Fin.ext (k0_dev11_eq c)) _ (rt c) rfl) $$ Hrec D10 Al HO
  iintro D10 HO
  iapply (s_staged m K c Q _ 0 2 0 _ _ _ _ (lf c) 1 (off_lf c 1) (lf c) (off_lf c 2) fullShare _ (by decide) (by decide)) $$ Hrec G0 F0 HO HW L2
  iintro F0 L1 T0 C0 HO HW
  iapply (s_recvHop m K c Q _ 3 0 rfl 3 rfl _ (by decide) (lf c) rfl) $$ Hrec R3 HO
  iintro A R3 HO
  iapply (s_stageIn m c Q _ 0 3 0 (lf c) fullShare) $$ A T0 C0
  iintro G0
  iapply (s_staged m K c Q _ 1 2 1 _ _ _ _ (rt c) 1 (off_rt c 1) (rt c) (off_rt c 2) fullShare.right _ (by decide) (by decide)) $$ Hrec G1 F1 HO HW P2
  iintro F1 P1 T1 C1 HO HW
  iapply (s_recvHop m K c Q _ 7 1 rfl 3 rfl _ (by decide) (rt c) rfl) $$ Hrec R7 HO
  iintro A R7 HO
  ihave A := (comm_halves c 1 3 _).1 $$ A
  icases A with ⟨Al, Ar⟩
  iapply (s_stageIn m c Q _ 1 3 1 (rt c) fullShare.right) $$ Ar T1 C1
  iintro G1
  iapply (s_sendFwd m K c Q _ 11 (by decide) 3 rfl 1 rfl fullShare.left rfl _ (Fin.ext (k0_dev12_eq c)) _ (rt c) rfl) $$ Hrec D11 Al HO
  iintro D11 HO
  iapply (s_staged m K c Q _ 0 3 0 _ _ _ _ (lf c) 2 (off_lf c 2) (lf c) (off_lf c 3) fullShare _ (by decide) (by decide)) $$ Hrec G0 F0 HO HW L3
  iintro F0 L2 T0 C0 HO HW
  iapply Hk $$ HW [Y2 Y3] [L0 L1 L2] [P0 P1] [F0 F1] [G1 T0 C0] [R1 R2 R3 R4 R5 R6 R7] [D9 D10 D11] HO
  · iframe
  · iframe
  · iframe
  · iframe
  · iframe
  · iframe
  · iframe

/-- The fourth part makes the result blocks of the opposite device's rows. -/
theorem run_fwdPart :
    recs m K ⊢ iprop(own c wbAll fullShare (wNar m c) -∗ (flO m c 0 (lf c) 3 ∗ flO m c 1 (rt c) 2)
      -∗ (flS m c 1 3 1 (rt c) fullShare.right ∗ any c (xstage 0) ∗ zero c (cpS 0))
      -∗ (recvR c 8 ∗ recvR c 9 ∗ recvR c 10 ∗ recvR c 11)
      -∗ any c (outM (rt c) 3)
      -∗ (any c (outM (op c) 0) ∗ any c (outM (op c) 1) ∗ any c (outM (op c) 2) ∗ any c (outM (op c) 3)) -∗ owesL c []
      -∗ (own c wbAll fullShare (wNar m c) -∗ (done m c (lf c) 3 ∗ done m c (rt c) 2 ∗ done m c (rt c) 3)
        -∗ (done m c (op c) 0 ∗ done m c (op c) 2) -∗ (flO m c 0 (op c) 1 ∗ flO m c 1 (op c) 3)
        -∗ (any c (xstage 0) ∗ any c (xstage 1)) -∗ (zero c (cpS 0) ∗ zero c (cpS 1))
        -∗ (zero c (rcvS 8) ∗ zero c (rcvS 9) ∗ zero c (rcvS 10) ∗ zero c (rcvS 11)) -∗ owesL c [] -∗ WP c rest Q)
      -∗ WP c (fwdPart c rest) Q) := by
  iintro #Hrec HW ⟨F0, F1⟩ ⟨G1, T0, C0⟩ ⟨R8, R9, R10, R11⟩ P3 ⟨Z0, Z1, Z2, Z3⟩ HO Hk
  unfold fwdPart
  iapply (s_recvFwd m K c Q _ 8 2 rfl 0 rfl _ (by decide) (op c) rfl) $$ Hrec R8 HO
  iintro A R8 HO
  iapply (s_stageIn m c Q _ 2 0 0 (op c) fullShare) $$ A T0 C0
  iintro G0
  iapply (s_staged m K c Q _ 1 3 1 _ _ _ _ (rt c) 2 (off_rt c 2) (rt c) (off_rt c 3) fullShare.right _ (by decide) (by decide)) $$ Hrec G1 F1 HO HW P3
  iintro F1 P2 T1 C1 HO HW
  iapply (s_recvFwd m K c Q _ 10 2 rfl 2 rfl _ (by decide) (op c) rfl) $$ Hrec R10 HO
  iintro A R10 HO
  iapply (s_stageIn m c Q _ 2 2 1 (op c) fullShare) $$ A T1 C1
  iintro G1
  iapply (s_staged m K c Q _ 2 0 0 _ _ _ _ (lf c) 3 (off_lf c 3) (op c) (off_op c 0) fullShare _ (by decide) (by decide)) $$ Hrec G0 F0 HO HW Z0
  iintro F0 L3 T0 C0 HO HW
  iapply (s_recvFwd m K c Q _ 9 2 rfl 1 rfl _ (by decide) (op c) rfl) $$ Hrec R9 HO
  iintro A R9 HO
  iapply (s_stageIn m c Q _ 2 1 0 (op c) fullShare) $$ A T0 C0
  iintro G0
  iapply (s_staged m K c Q _ 2 2 1 _ _ _ _ (rt c) 3 (off_rt c 3) (op c) (off_op c 2) fullShare _ (by decide) (by decide)) $$ Hrec G1 F1 HO HW Z2
  iintro F1 P3 T1 C1 HO HW
  iapply (s_recvFwd m K c Q _ 11 2 rfl 3 rfl _ (by decide) (op c) rfl) $$ Hrec R11 HO
  iintro A R11 HO
  iapply (s_stageIn m c Q _ 2 3 1 (op c) fullShare) $$ A T1 C1
  iintro G1
  iapply (s_staged m K c Q _ 2 1 0 _ _ _ _ (op c) 0 (off_op c 0) (op c) (off_op c 1) fullShare _ (by decide) (by decide)) $$ Hrec G0 F0 HO HW Z1
  iintro F0 Z0 T0 C0 HO HW
  iapply (s_staged m K c Q _ 2 3 1 _ _ _ _ (op c) 2 (off_op c 2) (op c) (off_op c 3) fullShare _ (by decide) (by decide)) $$ Hrec G1 F1 HO HW Z3
  iintro F1 Z2 T1 C1 HO HW
  iapply Hk $$ HW [L3 P2 P3] [Z0 Z2] [F0 F1] [T0 T1] [C0 C1] [R8 R9 R10 R11] HO
  · iframe
  · iframe
  · iframe
  · iframe
  · iframe
  · iframe

/-- The last part waits for the transfers to have left, and for the last two result blocks. -/
theorem run_epilogue :
    recs m K ⊢ iprop((crS c 0 ∗ crS c 1 ∗ crS c 2 ∗ crS c 3 ∗ crS c 4 ∗ crS c 5 ∗ crS c 6 ∗ crS c 7)
      -∗ (crS c 8 ∗ crS c 9 ∗ crS c 10 ∗ crS c 11)
      -∗ (atS c 0 ∗ atS c 1 ∗ atS c 2 ∗ atS c 3 ∗ atS c 4 ∗ atS c 5 ∗ atS c 6 ∗ atS c 7) -∗ (atS c 8 ∗ atS c 9 ∗ atS c 10 ∗ atS c 11)
      -∗ (kept m c 0 ∗ kept m c 1 ∗ kept m c 2 ∗ kept m c 3) -∗ (flO m c 0 (op c) 1 ∗ flO m c 1 (op c) 3) -∗ owesL c []
      -∗ ((any c (xown 0) ∗ any c (xown 1) ∗ any c (xown 2) ∗ any c (xown 3)) -∗ (done m c (op c) 1 ∗ done m c (op c) 3)
        -∗ (any c (obuf 0) ∗ any c (obuf 1)) -∗ (zero c (stS 0) ∗ zero c (stS 1))
        -∗ (zero c (sndS 0) ∗ zero c (sndS 1) ∗ zero c (sndS 2) ∗ zero c (sndS 3) ∗ zero c (sndS 4) ∗ zero c (sndS 5) ∗ zero c (sndS 6) ∗ zero c (sndS 7))
        -∗ (zero c (sndS 8) ∗ zero c (sndS 9) ∗ zero c (sndS 10) ∗ zero c (sndS 11)) -∗ owesL c [] -∗ Q ⟨⟩)
      -∗ WP c (epilogue c) Q) := by
  iintro #Hrec ⟨D0, D1, D2, D3, D4, D5, D6, D7⟩ ⟨D8, D9, D10, D11⟩ ⟨A0, A1, A2, A3, A4, A5, A6, A7⟩ ⟨A8, A9, A10, A11⟩ ⟨O0, O1, O2, O3⟩
    ⟨F0, F1⟩ HO Hk
  unfold epilogue
  iapply (s_sentHop m K c Q _ 0 (by decide) 0 rfl fullShare.right.left rfl) $$ Hrec D0 A0 HO
  iintro R0 Z0 HO
  iapply (s_sentHop m K c Q _ 1 (by decide) 1 rfl fullShare.right.left rfl) $$ Hrec D1 A1 HO
  iintro R1 Z1 HO
  iapply (s_sentHop m K c Q _ 2 (by decide) 2 rfl fullShare.right.left rfl) $$ Hrec D2 A2 HO
  iintro R2 Z2 HO
  iapply (s_sentHop m K c Q _ 3 (by decide) 3 rfl fullShare.right.left rfl) $$ Hrec D3 A3 HO
  iintro R3 Z3 HO
  iapply (s_sentHop m K c Q _ 4 (by decide) 0 rfl fullShare.right.right rfl) $$ Hrec D4 A4 HO
  iintro L0 Z4 HO
  iapply (s_sentHop m K c Q _ 5 (by decide) 1 rfl fullShare.right.right rfl) $$ Hrec D5 A5 HO
  iintro L1 Z5 HO
  iapply (s_sentHop m K c Q _ 6 (by decide) 2 rfl fullShare.right.right rfl) $$ Hrec D6 A6 HO
  iintro L2 Z6 HO
  iapply (s_sentHop m K c Q _ 7 (by decide) 3 rfl fullShare.right.right rfl) $$ Hrec D7 A7 HO
  iintro L3 Z7 HO
  iapply (s_sentFwd m K c Q _ 8) $$ Hrec D8 A8 HO
  iintro Z8 HO
  iapply (s_sentFwd m K c Q _ 9) $$ Hrec D9 A9 HO
  iintro Z9 HO
  iapply (s_sentFwd m K c Q _ 10) $$ Hrec D10 A10 HO
  iintro Z10 HO
  iapply (s_sentFwd m K c Q _ 11) $$ Hrec D11 A11 HO
  iintro Z11 HO
  iapply (s_outWait m K c Q _ 0 _ _ (op c) 1 (off_op c 1) _ (by decide)) $$ Hrec F0 HO
  iintro Y1 B0 S0 HO
  iapply (s_outWait m K c Q _ 1 _ _ (op c) 3 (off_op c 3) _ (by decide)) $$ Hrec F1 HO
  iintro Y3 B1 S1 HO
  unfold WP
  rw [wp_ret]
  imodintro
  iapply Hk $$ [O0 R0 L0 O1 R1 L1 O2 R2 L2 O3 R3 L3] [Y1 Y3] [B0 B1] [S0 S1] [Z0 Z1 Z2 Z3 Z4 Z5 Z6 Z7] [Z8 Z9 Z10 Z11] HO
  · isplitl [O0 R0 L0]
    · iapply (any_of c _ _)
      iapply (xown_thirds c 0 _).2
      iframe
    isplitl [O1 R1 L1]
    · iapply (any_of c _ _)
      iapply (xown_thirds c 1 _).2
      iframe
    isplitl [O2 R2 L2]
    · iapply (any_of c _ _)
      iapply (xown_thirds c 2 _).2
      iframe
    iapply (any_of c _ _)
    iapply (xown_thirds c 3 _).2
    iframe
  · iframe
  · iframe
  · iframe
  · iframe
  · iframe

/-! ## The whole body -/

theorem big12 (P : Fin 12 → sProp 𝕄) : bigSep Finset.univ P
    = iprop(P 0 ∗ P 1 ∗ P 2 ∗ P 3 ∗ P 4 ∗ P 5 ∗ P 6 ∗ P 7 ∗ P 8 ∗ P 9 ∗ P 10 ∗ P 11) := by
  rw [show (Finset.univ : Finset (Fin 12)) = insert 0 (insert 1 (insert 2 (insert 3 (insert 4 (insert 5 (insert 6 (insert 7 (insert 8 (insert 9
    (insert 10 {11})))))))))) by decide]
  iterate 11 rw [bigSep_insert (by decide)]
  rw [bigSep_singleton]
  rfl

/-- The kernel's six scratch buffers, at any contents. -/
def scratch (c : Dev nD) : sProp 𝕄 :=
  iprop(any c (Memref.whole cc0_scratch0) ∗ any c (Memref.whole cc0_scratch1) ∗ any c (Memref.whole cc0_scratch2)
    ∗ any c (Memref.whole cc0_scratch3) ∗ any c (Memref.whole cc0_scratch4) ∗ any c (Memref.whole cc0_scratch5))
/-- The inputs at their launch contents. -/
def inputs (c : Dev nD) : sProp 𝕄 :=
  iprop((((c : Thread nD τ).loc main_arg0) ↦{fullShare} xIn m c) ∗ (((c : Thread nD τ).loc main_arg1) ↦{fullShare} wIn m c))
/-- The semaphores of the local copies that the body uses, at zero. -/
def locals (c : Dev nD) : sProp 𝕄 := iprop((zero c (cpS 0) ∗ zero c (cpS 1)) ∗ (zero c (stS 0) ∗ zero c (stS 1)))
/-- What the device holds of the channels at the start. -/
def channels (c : Dev nD) : sProp 𝕄 :=
  iprop((bigSep Finset.univ fun i => sendR (F := F) c i) ∗ (bigSep Finset.univ fun i => recvR (F := F) c i) ∗ (bigSep Finset.univ fun i => atS (F := F) c i))
/-- The result, its blocks those the row blocks of `x` make. -/
def result (c : Dev nD) : sProp 𝕄 :=
  iprop(∃ X : FVec F S4096x2048 .f32, ⌜∀ d k, (fun j => X ((outR d k).emb j)) = outB m c d k⌝ ∗ (((c : Thread nD τ).loc main_v1_0) ↦{fullShare} X))
/-- The semaphores of the channels at zero. -/
def closed (c : Dev nD) : sProp 𝕄 :=
  iprop((bigSep Finset.univ fun i => zero (F := F) c (sndS i)) ∗ (bigSep Finset.univ fun i => zero (F := F) c (rcvS i)))

set_option maxHeartbeats 2000000 in
/-- The body, from the buffers and the channels to the result. -/
theorem run_body :
    recs m K ⊢ iprop(inputs m c -∗ any c (Memref.whole main_v1_0) -∗ scratch c -∗ locals c -∗ channels c -∗ owesL c allCh
      -∗ (inputs m c -∗ result m c -∗ scratch c -∗ locals c -∗ closed c -∗ owesL c [] -∗ Q ⟨⟩)
      -∗ WP c (bodyOf c) Q) := by
  unfold inputs scratch locals channels closed
  rw [big12, big12, big12, big12, big12]
  iintro #Hrec ⟨X, W⟩ Y ⟨B0, B1, B2, B3, B4, B5⟩ ⟨C, S⟩ ⟨⟨D0, D1, D2, D3, D4, D5, D6, D7, D8, D9, D10, D11⟩,
    ⟨R0, R1, R2, R3, R4, R5, R6, R7, R8, R9, R10, R11⟩, ⟨A0, A1, A2, A3, A4, A5, A6, A7, A8, A9, A10, A11⟩⟩ HO Hk
  ihave X := ((cut_x m c).trans (Entails.of_eq (big4 _))) $$ X
  ihave W := ((cut_w m c).trans (Entails.of_eq (big4 _))) $$ W
  ihave B0 := ((cut_wb c).trans (Entails.of_eq (big4 _))) $$ B0
  ihave B1 := ((cut_xown c).trans (Entails.of_eq (big4 _))) $$ B1
  ihave B2 := ((cut_xtmp c).trans (Entails.of_eq (big2 _))) $$ B2
  ihave B3 := ((cut_wtmp c).trans (Entails.of_eq (big2 _))) $$ B3
  ihave B4 := ((cut_xstage c).trans (Entails.of_eq (big2 _))) $$ B4
  ihave B5 := ((cut_obuf c).trans (Entails.of_eq (big2 _))) $$ B5
  ihave Y := ((cut_out c).trans (Entails.of_eq ((bigSep_univ_prod _).trans (bigDev c _)))) $$ Y
  icases Y with ⟨Yc, Yl, Yr, Yo⟩
  ihave Yc := (Entails.of_eq (big4 _)) $$ Yc
  ihave Yl := (Entails.of_eq (big4 _)) $$ Yl
  ihave Yr := (Entails.of_eq (big4 _)) $$ Yr
  ihave Yo := (Entails.of_eq (big4 _)) $$ Yo
  icases Yr with ⟨P0, P1, P2, P3⟩
  icases B4 with ⟨T0, T1⟩
  unfold bodyOf allCh
  iapply (run_prologue m K c Q _ _ _ _ _ _ _ _ _ (Fin.ext (k0_dev1_eq c)) (Fin.ext (k0_dev2_eq c)) (Fin.ext (k0_dev3_eq c)) (Fin.ext (k0_dev4_eq c))
    (Fin.ext (k0_dev5_eq c)) (Fin.ext (k0_dev6_eq c)) (Fin.ext (k0_dev7_eq c)) (Fin.ext (k0_dev8_eq c)))
    $$ Hrec X W B2 B3 B1 B0 C S [D0 D1 D2 D3 D4 D5 D6 D7] HO
  · iframe
  iintro X W B2 B3 O B0 ⟨C0, C1⟩ S D HO
  iapply (run_ownPart m K c Q _) $$ Hrec O B0 B5 S Yc [R0 D8 T0 C0] HO
  · iframe
  iintro O B0 ⟨Y0, Y1⟩ F ⟨R0, D8, G0⟩ HO
  iapply (run_hopPart m K c Q _) $$ Hrec B0 F [G0 T1 C1] [R1 R2 R3 R4 R5 R6 R7] [D9 D10 D11] Yl [P0 P1 P2] HO
  · iframe
  · iframe
  · iframe
  · iframe
  iintro B0 ⟨Y2, Y3⟩ ⟨L0, L1, L2⟩ ⟨P0, P1⟩ F G ⟨R1, R2, R3, R4, R5, R6, R7⟩ ⟨D9, D10, D11⟩ HO
  iapply (run_fwdPart m K c Q _) $$ Hrec B0 F G [R8 R9 R10 R11] P3 Yo HO
  · iframe
  iintro B0 ⟨L3, P2, P3⟩ ⟨Z0, Z2⟩ F B4 C ⟨R8, R9, R10, R11⟩ HO
  iapply (run_epilogue m K c Q) $$ Hrec D [D8 D9 D10 D11] [A0 A1 A2 A3 A4 A5 A6 A7] [A8 A9 A10 A11] O F HO
  · iframe
  · iframe
  · iframe
  iintro B1 ⟨Z1, Z3⟩ B5 S ⟨A0, A1, A2, A3, A4, A5, A6, A7⟩ ⟨A8, A9, A10, A11⟩ HO
  iapply Hk $$ [X W] [Y0 Y1 Y2 Y3 L0 L1 L2 L3 P0 P1 P2 P3 Z0 Z1 Z2 Z3] [B0 B1 B2 B3 B4 B5] [C S]
    [A0 A1 A2 A3 A4 A5 A6 A7 A8 A9 A10 A11 R0 R1 R2 R3 R4 R5 R6 R7 R8 R9 R10 R11] HO
  · isplitl [X]
    · iapply (glue_x m c); rw [big4]; iexact X
    · iapply (glue_w m c); rw [big4]; iexact W
  · unfold result
    iapply (glue_out m c)
    rw [bigSep_univ_prod, bigDev c, big4, big4, big4, big4]
    iframe
  · isplitl [B0]
    · iapply (glue_wb c); iapply (any_of c _ _); iexact B0
    isplitl [B1]
    · iapply (glue_xown c); rw [big4]; iexact B1
    isplitl [B2]
    · iapply (glue_xtmp c); rw [big2]; iexact B2
    isplitl [B3]
    · iapply (glue_wtmp c); rw [big2]; iexact B3
    isplitl [B4]
    · iapply (glue_xstage c); rw [big2]; iexact B4
    · iapply (glue_obuf c); rw [big2]; iexact B5
  · iframe
  · iframe

end Cert.Proof

end
-- ==== Proof.Deal.lean ====
/-
  What the launch deals: the ghost state of the channels, the credits of what is owed, the memory and the semaphores of
  each device cut to what the body starts from, and the global step that hands every sender the row block of the received
  rows it writes on its target.
-/
module

public import proofs.«01_k».proof.Proof.Body

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families -/

theorem sum_eq {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
theorem ins_eq {A : Type} [DecidableEq A] {a : A} {s : Finset A} (h : a ∉ s) (Φ : A → sProp 𝕄) :
    bigSep (insert a s) Φ = iprop(Φ a ∗ bigSep s Φ) := bigSep_insert h
theorem at_elem {A : Type} [Fintype A] [DecidableEq A] (Φ : A → sProp 𝕄) (a : A) : bigSep Finset.univ Φ ⊢ Φ a := bigSep_elim (Finset.mem_univ a)

theorem mono_all {A : Type} [Fintype A] {Φ Ψ : A → sProp 𝕄} (h : ∀ a, Φ a ⊢ Ψ a) : bigSep Finset.univ Φ ⊢ bigSep Finset.univ Ψ :=
  bigSep_mono fun a _ => h a

/-! ## The channels' cells -/

/-- The cell of a channel: its send cell or its receive cell. -/
def chSem : Fin 12 ⊕ Fin 12 → SemLoc sig
  | .inl i => .dma (sndS i)
  | .inr i => .dma (rcvS i)

theorem chSem_inj : Function.Injective chSem := by decide

/-- All the channels' cells of all devices. -/
def chCell : Dev nD × (Fin 12 ⊕ Fin 12) ↪ GSem nD τ sig :=
  ⟨fun p => ((p.1 : Thread nD τ), chSem p.2), fun a b h => Prod.ext (congrArg (fun g : GSem nD τ sig => g.1.1) h) (chSem_inj (congrArg Prod.snd h))⟩

/-- Their one duty each. -/
def chTok : Dev nD × (Fin 12 ⊕ Fin 12) ↪ GSem nD τ sig × ℕ × Unit :=
  ⟨fun p => (chCell p, 0, ()), fun _ _ h => chCell.injective (congrArg Prod.fst h)⟩

/-- The ghost state the launch starts from. -/
def u₀ : UU := (1, (initOf (Finset.univ.map chCell) (Finset.univ.map chTok), 1))

theorem own_u₀ : (ownU u₀ : sProp 𝕄) ⊢ BI.own (ER (initOf (Finset.univ.map chCell) (Finset.univ.map chTok))) := Entails.of_eq rfl

/-- A family over devices and channels, read at every channel's target. -/
theorem around (Φ : Dev nD → Fin 12 → sProp 𝕄) :
    (bigSep Finset.univ fun c => bigSep Finset.univ fun i => Φ c i) = bigSep Finset.univ fun c => bigSep Finset.univ fun i => Φ (tgt c i) i := by
  have hb : Function.Bijective fun p : Dev nD × Fin 12 => (tgt p.1 p.2, p.2) := by
    refine (Fintype.bijective_iff_injective_and_card _).2 ⟨fun a b h => ?_, rfl⟩
    obtain ⟨h1, h2⟩ := Prod.mk.inj h
    obtain ⟨a1, a2⟩ := a; obtain ⟨b1, b2⟩ := b
    cases h2
    exact Prod.ext (tgt_inj a2 h1) rfl
  rw [← bigSep_univ_prod (fun p : Dev nD × Fin 12 => Φ p.1 p.2), bigSep_univ_equiv (Equiv.ofBijective _ hb),
    bigSep_univ_prod]
  rfl

/-- The ghost state of the channels made: the positions, the rounds reached and the duties, each device's channels apart. -/
theorem fund_channels :
    (ownU u₀ : sProp 𝕄) ⊢ |==> iprop((bigSep Finset.univ fun p => roundState ER (Rd m) (chCell p) 0)
      ∗ (bigSep Finset.univ fun p => reached ER (chCell p) 0)
      ∗ (bigSep Finset.univ fun p => atPos ER (chCell p) 0 ∅ 0)
      ∗ bigSep Finset.univ fun p => dutyTok ER (chCell p) 0 ()) := by
  have h := (own_u₀ (F := F)).trans (Rounds.fund ER (Rd m) (Finset.univ.map chCell) (Finset.univ.map chTok))
  simp only [bigSep_map] at h
  exact h

/-- The invariants of all channels' cells, at names chosen for the whole machine. -/
theorem alloc_channels :
    iprop((bigSep Finset.univ fun p => semVal (chCell p) 0) ∗ bigSep Finset.univ fun p => roundState ER (Rd m) (chCell p) 0)
      ⊢ (|={Set.univ}=> iprop(∃ K : Dev nD × (Fin 12 ⊕ Fin 12) → ℕ, bigSep Finset.univ fun p => cellInv ER (Rd m) (K p) (chCell p)) : sProp 𝕄) := by
  rw [← bigSep_sep']
  have h1 : (bigSep Finset.univ fun p => iprop(semVal (chCell p) 0 ∗ roundState ER (Rd m) (chCell p) 0) : sProp 𝕄)
      ⊢ |={Set.univ}=> bigSep Finset.univ fun p => iprop(∃ κ : ℕ, cellInv ER (Rd m) κ (chCell p)) :=
    (bigSep_mono fun p _ => (Rounds.body_intro ER (Rd m) (chCell p)).trans inv_alloc).trans (bigSep_fupd _ _)
  exact h1.trans (BI.fupd_mono (bigSep_exists_pi Finset.univ fun (p : Dev nD × (Fin 12 ⊕ Fin 12)) (κ : ℕ) => cellInv ER (Rd m) κ (chCell p)))

/-! ## The credits -/

/-- The device that sends to `c` on channel `i`. -/
def sender (c : Dev nD) (i : Fin 12) : Dev nD := if i.val < 4 ∨ i.val = 8 ∨ i.val = 9 then lf c else rt c
theorem tgt_sender : ∀ (i : Fin 12) (c : Dev nD), tgt (sender c i) i = c := by decide
theorem sender_tgt : ∀ (i : Fin 12) (c : Dev nD), sender (tgt c i) i = c := by decide

/-- What the devices owe on the channels of a list comes to each device as the credits of its own receive cells. -/
theorem creds (c : Dev nD) (l : List (Fin 12)) (hl : l.Nodup) :
    (Pipeline.launchCred (fun d => owe d l) c : sProp 𝕄) ⊢ bigSep l.toFinset fun i => cred (tallyAt (rcvC c i) () N) := by
  induction l with
  | nil => rw [List.toFinset_nil, bigSep_empty]; iintro -; iempintro
  | cons i l ih =>
    rw [List.toFinset_cons, ins_eq (by rw [List.mem_toFinset]; exact (List.nodup_cons.1 hl).1),
      show (fun d => owe d (i :: l)) = fun d => owe d l + tallyAt (rcvC (tgt d i) i) () N from rfl, Pipeline.launchCred_add]
    iintro ⟨H, H1⟩
    isplitl [H1]
    · iapply (Pipeline.launchCred_tallyAt (.dma (rcvS i)) (fun d => tgt d i) (fun d => sender d i) (fun d => tgt_sender i d) (fun d => sender_tgt i d) () N c)
      iexact H1
    · iapply (ih (List.nodup_cons.1 hl).2); iexact H

theorem creds_all (c : Dev nD) :
    (Pipeline.launchCred (fun d => owe d allCh) c : sProp 𝕄) ⊢ bigSep Finset.univ fun i => cred (tallyAt (rcvC c i) () N) := by
  have h := creds (F := F) c allCh (by decide)
  rwa [show allCh.toFinset = Finset.univ by decide] at h

/-! ## A device's semaphores and memory -/

/-- The semaphore no copy uses. -/
abbrev cpX : DmaSem sig := ⟨26, by decide⟩

/-- The semaphores of the local copies, with the one the body never uses. -/
def rests (c : Dev nD) : sProp 𝕄 := iprop(locals c ∗ zero (F := F) c cpX)

/-- Every semaphore of a device. -/
def allSem : (Fin 12 ⊕ Fin 12) ⊕ Fin 5 ↪ SemLoc sig :=
  ⟨Sum.elim chSem ![.dma (cpS 0), .dma (cpS 1), .dma (stS 0), .dma (stS 1), .dma cpX], by decide⟩

theorem scoped_all : (Finset.univ.filter fun sm : SemLoc sig => sm.isScoped .tc) = Finset.univ.map allSem := by decide

/-- A device's semaphores at zero are those of its channels and of its local copies. -/
theorem sems_eq (c : Dev nD) : (scopedSems0 (c : Thread nD τ) : sProp 𝕄)
    = iprop((bigSep Finset.univ fun k => semVal (chCell (c, k)) 0)
      ∗ (zero c (cpS 0) ∗ zero c (cpS 1) ∗ zero c (stS 0) ∗ zero c (stS 1) ∗ zero c cpX)) := by
  rw [show (scopedSems0 (c : Thread nD τ) : sProp 𝕄) = _ from scopedSems0_tc c, scoped_all, bigSep_map, sum_eq]
  congr 1
  rw [show (Finset.univ : Finset (Fin 5)) = insert 0 (insert 1 (insert 2 (insert 3 {4}))) by decide]
  iterate 4 rw [ins_eq (by decide)]
  rw [bigSep_singleton]
  rfl

theorem sems_split (c : Dev nD) : (scopedSems0 (c : Thread nD τ) : sProp 𝕄)
    ⊢ iprop((bigSep Finset.univ fun k => semVal (chCell (c, k)) 0) ∗ rests c) := by
  rw [sems_eq]; unfold rests locals
  iintro ⟨H, A, B, C, D, E⟩
  iframe

theorem sems_join (c : Dev nD) : iprop(closed c ∗ rests c) ⊢ (scopedSems0 (c : Thread nD τ) : sProp 𝕄) := by
  rw [sems_eq, sum_eq]; unfold closed rests locals
  iintro ⟨⟨H, H'⟩, ⟨⟨A, B⟩, C, D⟩, E⟩
  iframe
  isplitl [H]
  · iexact H
  · iexact H'

/-- The received rows' row block of a channel. -/
abbrev land (c : Dev nD) (i : Fin 12) : sProp 𝕄 := any c (commM (chA i) (chK i))

/-- The received rows, channel by channel. -/
theorem comm_split (c : Dev nD) : (any c (Memref.whole main_v1_1) : sProp 𝕄) ⊢ bigSep Finset.univ fun i => land c i := by
  refine (cut_comm c).trans (Entails.of_eq ?_)
  rw [bigSep_univ_equiv (Equiv.ofBijective (fun i : Fin 12 => (chA i, chK i)) (by decide))]
  rfl

/-- A device's memory at the launch: the inputs, the result's buffer, and the received rows channel by channel. -/
theorem mem_split (c : Dev nD) : (unscopedBufs c (fun b => m ((c : Thread nD τ).loc b)) : sProp 𝕄)
    ⊢ iprop(inputs m c ∗ any c (Memref.whole main_v1_0) ∗ bigSep Finset.univ fun i => land c i) := by
  have h : (unscopedBufs c (fun b => m ((c : Thread nD τ).loc b)) : sProp 𝕄)
      = iprop((((c : Thread nD τ).loc main_arg0) ↦{fullShare} xIn m c) ∗ (((c : Thread nD τ).loc main_arg1) ↦{fullShare} wIn m c)
        ∗ (((c : Thread nD τ).loc main_v1_0) ↦{fullShare} m ((c : Thread nD τ).loc main_v1_0))
        ∗ (((c : Thread nD τ).loc main_v1_1) ↦{fullShare} m ((c : Thread nD τ).loc main_v1_1))) := by
    unfold unscopedBufs
    rw [show (Finset.univ.filter fun b : Ref sig .tc => ¬ b.isScoped) = insert main_arg0 (insert main_arg1 (insert main_v1_0 {main_v1_1})) by decide]
    iterate 3 rw [ins_eq (by decide)]
    rw [bigSep_singleton]
    rfl
  rw [h]; unfold inputs
  iintro ⟨X, W, Y, C⟩
  isplitl [X W]; · iframe
  isplitl [Y]
  · iapply (any_whole c main_v1_0).2; iexists _; iexact Y
  · iapply (comm_split c); iapply (any_whole c main_v1_1).2; iexists _; iexact C

/-! ## The global step -/

/-- What a device starts its region from. -/
def start (c : Dev nD) : sProp 𝕄 :=
  iprop(∃ K, recs m K ∗ inputs m c ∗ any c (Memref.whole main_v1_0) ∗ rests c ∗ channels c)

/-- A device's own part of the launch. -/
def part (c : Dev nD) : sProp 𝕄 :=
  iprop(scopedSems0 (c : Thread nD τ) ∗ unscopedBufs c (fun b => m ((c : Thread nD τ).loc b)) ∗ Pipeline.launchCred (fun d => owe d allCh) c)

/-- It cut up. -/
theorem part_split (c : Dev nD) : part m c
    ⊢ iprop((bigSep Finset.univ fun k => semVal (chCell (c, k)) 0) ∗ (bigSep Finset.univ fun i => land c i)
      ∗ (inputs m c ∗ any c (Memref.whole main_v1_0) ∗ rests c ∗ bigSep Finset.univ fun i => cred (tallyAt (rcvC c i) () N))) := by
  unfold part
  iintro ⟨S, M, C⟩
  ihave S := (sems_split c) $$ S
  ihave M := (mem_split m c) $$ M
  ihave C := (creds_all c) $$ C
  icases S with ⟨S, R⟩
  icases M with ⟨I, Y, L⟩
  iframe

/-- The records of the channels from their invariants, the rounds reached and the levels. -/
theorem recs_intro (K : Dev nD × (Fin 12 ⊕ Fin 12) → ℕ) :
    iprop((bigSep Finset.univ fun p => cellInv ER (Rd m) (K p) (chCell p)) ∗ (bigSep Finset.univ fun p => reached ER (chCell p) 0) ∗ levAts L lv)
      ⊢ (recs m K : sProp 𝕄) := by
  unfold recs
  iintro ⟨#H, #R, #V⟩
  isplitr
  · iintro %c %i
    isplitr
    · iapply (at_elem (fun p => cellInv ER (Rd m) (K p) (chCell p)) (c, Sum.inl i)); iexact H
    · iapply (at_elem (fun p => reached ER (chCell p) 0) (c, Sum.inl i)); iexact R
  isplitr
  · iintro %c %i
    isplitr
    · iapply (at_elem (fun p => cellInv ER (Rd m) (K p) (chCell p)) (c, Sum.inr i)); iexact H
    · iapply (at_elem (fun p => reached ER (chCell p) 0) (c, Sum.inr i)); iexact R
  · iexact V

/-- What stays with a device makes its start. -/
theorem start_intro (K : Dev nD × (Fin 12 ⊕ Fin 12) → ℕ) (c : Dev nD) :
    iprop(recs m K ∗ ((bigSep Finset.univ fun k => atPos ER (chCell (c, k)) 0 ∅ 0)
      ∗ ((bigSep Finset.univ fun i => dutyTok ER (sndC c i) 0 ()) ∗ (bigSep Finset.univ fun i => dutyTok ER (rcvC (tgt c i) i) 0 ())
        ∗ bigSep Finset.univ fun i => land (tgt c i) i)
      ∗ (inputs m c ∗ any c (Memref.whole main_v1_0) ∗ rests c ∗ bigSep Finset.univ fun i => cred (tallyAt (rcvC c i) () N))))
      ⊢ (start m c : sProp 𝕄) := by
  unfold start channels
  rw [sum_eq]
  iintro ⟨R, ⟨A1, A2⟩, ⟨T1, T2, L⟩, I, Y, E, C⟩
  iexists K
  isplitl [R]; · iexact R
  isplitl [I]; · iexact I
  isplitl [Y]; · iexact Y
  isplitl [E]; · iexact E
  isplitl [T1 T2 L]
  · unfold sendR
    rw [bigSep_sep', bigSep_sep']
    isplitl [T1]; · iexact T1
    isplitl [T2]; · iexact T2
    iexact L
  isplitl [C A2]
  · unfold recvR
    rw [bigSep_sep']
    isplitl [C]; · iexact C
    iexact A2
  · iexact A1

/-- The same over all devices. -/
theorem gather (K : Dev nD × (Fin 12 ⊕ Fin 12) → ℕ) :
    iprop((bigSep Finset.univ fun _ : Dev nD => recs m K) ∗ (bigSep Finset.univ fun c : Dev nD => bigSep Finset.univ fun k => atPos ER (chCell (c, k)) 0 ∅ 0)
      ∗ ((bigSep Finset.univ fun c : Dev nD => bigSep Finset.univ fun i => dutyTok ER (sndC c i) 0 ())
        ∗ (bigSep Finset.univ fun c : Dev nD => bigSep Finset.univ fun i => dutyTok ER (rcvC (tgt c i) i) 0 ())
        ∗ bigSep Finset.univ fun c : Dev nD => bigSep Finset.univ fun i => land (tgt c i) i)
      ∗ (bigSep Finset.univ fun c : Dev nD => iprop(inputs m c ∗ any c (Memref.whole main_v1_0) ∗ rests c ∗ bigSep Finset.univ fun i => cred (tallyAt (rcvC c i) () N))))
      ⊢ (bigSep Finset.univ fun c => start m c : sProp 𝕄) := by
  refine BIBase.Entails.trans (Entails.of_eq ?_) (mono_all (start_intro m K))
  simp only [bigSep_sep']

/-- From the shares of the devices, the levels and the ghost state, every device's start. -/
theorem deal : iprop((bigSep Finset.univ fun c => part m c) ∗ levAts L lv ∗ ownU u₀) ⊢ (|={Set.univ}=> bigSep Finset.univ fun c => start m c : sProp 𝕄) := by
  iintro ⟨H, V, U⟩
  ihave H := (mono_all (part_split m)) $$ H
  ihave H := (Entails.of_eq ((bigSep_sep' _ _ _).trans (congrArg _ (bigSep_sep' _ _ _)))) $$ H
  icases H with ⟨S, L, H⟩
  imod (fund_channels m) $$ U with ⟨St, R, A, T⟩
  imod (alloc_channels m) $$ [S St] with ⟨%K, I⟩
  · isplitl [S]
    · rw [bigSep_univ_prod]; iexact S
    · iexact St
  ihave Rec := (recs_intro m K) $$ [I R V]
  · isplitl [I]; · iexact I
    isplitl [R]; · iexact R
    iexact V
  imodintro
  ihave A := (Entails.of_eq (bigSep_univ_prod _)) $$ A
  ihave T := (Entails.of_eq ((bigSep_univ_prod _).trans ((bigSep_congr fun c _ => sum_eq _).trans (bigSep_sep' _ _ _)))) $$ T
  icases T with ⟨T1, T2⟩
  ihave T2 := (Entails.of_eq (around fun c i => dutyTok ER (chCell (c, .inr i)) 0 ())) $$ T2
  ihave L := (Entails.of_eq (around fun c i => land c i)) $$ L
  ihave Rec := (bigSep_of_persistent Finset.univ (recs m K) : (recs m K : sProp 𝕄) ⊢ bigSep (Finset.univ : Finset (Dev nD)) fun _ => recs m K) $$ Rec
  iapply (gather m K)
  isplitl [Rec]; · iexact Rec
  isplitl [A]; · iexact A
  isplitl [T1 T2 L]
  · isplitl [T1]; · iexact T1
    isplitl [T2]; · iexact T2
    iexact L
  · iexact H

end Cert.Proof

end
-- ==== Proof.Run.lean ====
/-
  The run of @main: the body's obligation to the pipeline, the launch, and what every final memory holds.
-/
module

public import proofs.«01_k».proof.Proof.Deal
public import proofs.«01_k».proof.Proof.Gen.KernelIdeal.Launch
public import proofs.«01_k».proof.Proof.Gen.KernelIdeal.Points
public import Idealize.ShloMosaic.Harness.Basic

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ)

/-! ## The body's obligation -/

/-- What the body starts from. -/
def before (c : Dev nD) : sProp 𝕄 := iprop(start m c ∗ scratch c)
/-- What it leaves. -/
def later (c : Dev nD) : sProp 𝕄 := iprop((inputs m c ∗ result m c) ∗ (closed c ∗ rests c) ∗ scratch c)

/-- The pipeline's data: no window, the body's state before and after its one point, and what it owes there. -/
def dats (_ : Fin 1) (c : Dev nD) : Dat τ (Elt F) Unit ℕ UU ℕ cfg0 c where
  A w := (show Fin 0 from w).elim0
  after w _ := (show Fin 0 from w).elim0
  Φ t := match t with
    | ⟨0, _⟩ => before m c
    | ⟨_ + 1, _⟩ => later m c
  q _ := fullShare
  owed t := match t with
    | ⟨0, _⟩ => owe c allCh
    | ⟨_ + 1, _⟩ => 0

/-- A family over no index holds nothing. -/
theorem none_all (Φ : Fin 0 → sProp 𝕄) : bigSep Finset.univ Φ = iprop(emp) := bigSep_empty

/-- Reading the device. -/
theorem run_device (c : Dev nD) (Q : Post F) (k : Dev nD → PP F) : WP c (k c) Q ⊢ WP c (.op .deviceId k) Q := by
  refine Entails.of_eq ?_
  unfold WP
  rw [wp_deviceId]

/-- The printed body from what it starts from to what it leaves. -/
theorem body_spec (c : Dev nD) (t : Fin cfg0.N) (Q : Post F) :
    iprop(before m c ∗ ∃ W, owes (c : Thread nD τ) (owe c allCh) W)
      ⊢ iprop((later m c -∗ (∃ W, owes (c : Thread nD τ) 0 W) -∗ Q ⟨⟩) -∗ WP c (bodyAt0 (F := F) t) Q) := by
  rw [body_eq]
  unfold before start
  iintro ⟨⟨⟨%K, #R, I, O, E, C⟩, S⟩, H⟩ Hk
  unfold rests
  icases E with ⟨E, X⟩
  iapply (run_device c _ fun d => bodyOf d)
  iapply (run_body m K c _) $$ R I O S E C [H]
  · unfold owesL; iexact H
  iintro I Y S E Z H
  iapply Hk $$ [I Y S E Z X] [H]
  · unfold later rests
    iframe
  · unfold owesL; iexact H

/-- The body's obligation. -/
theorem body_holds (c : Dev nD) : BodyObligation (dats (F := F) m 0 c) (defs₀ (F := F)) 𝒱₀ () Set.univ := fun t => by
  rw [fin_N0 t]
  have hz : ∀ Φ : Fin cfg0.W → sProp 𝕄, bigSep Finset.univ Φ = iprop(emp) := fun Φ => none_all Φ
  rw [hz, hz]
  have e : defs₀ (F := F) .tc cfg0.body (cfg0.bodyArgs t0_0 (cfg0.slots t0_0)) = bodyAt0 t0_0 := rfl
  rw [e, show (dats m 0 c).Φ (Fin.castSucc t0_0) = before m c from rfl, show (dats m 0 c).Φ (Fin.succ t0_0) = later m c from rfl]
  unfold Dat.owesAt Pipeline.owesWithin
  rw [show (dats m 0 c).owed (Fin.castSucc t0_0) = owe c allCh from rfl, show (dats m 0 c).owed (Fin.succ t0_0) = 0 from rfl]
  iintro ⟨B, ⟨%W, -, H⟩, -⟩
  iapply (body_spec m c t0_0 _) $$ [B H]
  · isplitl [B]; · iexact B
    iexists W; iexact H
  iintro B ⟨%W, H⟩
  isplitl [B]; · iexact B
  isplitl [H]
  · iexists W
    isplitr
    · ipureintro; exact fun _ _ => Or.inl trivial
    · iexact H
  · iempintro

/-! ## The region -/

/-- The device's scoped buffers are the body's scratch. -/
theorem scoped_scratch (c : Dev nD) : (scopedBufs (c : Thread nD τ) : sProp 𝕄) ⊣⊢ scratch c := by
  have h : (scopedBufs (c : Thread nD τ) : sProp 𝕄) = iprop(Dat.staging (cfgs 0) c ∗ Pipeline.scopedRest (cfgs 0).spec c) :=
    Pipeline.scopedBufs_split cfgs 0 winFacts0.stage_scoped winFacts0.stage_inj stage_whole0 c
  have hs : (Dat.staging (cfgs 0) c : sProp 𝕄) = iprop(emp) := none_all _
  rw [h, hs, show (cfgs 0).spec = cfg0.spec from rfl, scopedRest0_eq]
  unfold scratch
  constructor
  · iintro ⟨-, A0, A1, A2, A3, A4, A5⟩
    isplitl [A0]; · iapply (any_whole c _).2; iexact A0
    isplitl [A1]; · iapply (any_whole c _).2; iexact A1
    isplitl [A2]; · iapply (any_whole c _).2; iexact A2
    isplitl [A3]; · iapply (any_whole c _).2; iexact A3
    isplitl [A4]; · iapply (any_whole c _).2; iexact A4
    iapply (any_whole c _).2; iexact A5
  · iintro ⟨A0, A1, A2, A3, A4, A5⟩
    isplitr; · iempintro
    isplitl [A0]; · iapply (any_whole c _).1; iexact A0
    isplitl [A1]; · iapply (any_whole c _).1; iexact A1
    isplitl [A2]; · iapply (any_whole c _).1; iexact A2
    isplitl [A3]; · iapply (any_whole c _).1; iexact A3
    isplitl [A4]; · iapply (any_whole c _).1; iexact A4
    iapply (any_whole c _).1; iexact A5

/-- What a device holds before @main. -/
def pre (c : Dev nD) : sProp 𝕄 := iprop(scopedBufs (c : Thread nD τ) ∗ owes (c : Thread nD τ) (owe c allCh) ∅ ∗ start m c)
/-- What it holds after it. -/
def fin (c : Dev nD) : sProp 𝕄 := iprop((inputs m c ∗ result m c) ∗ scopedSems0 (c : Thread nD τ))

/-- @main is the region and the return. -/
theorem main_eq (c : Dev nD) : main (F := F) c = .op (.customCall (Pipeline.entry 0) ()) fun _ => .ret ⟨⟩ := rfl

/-- A device's run of @main. -/
theorem run_dev (c : Dev nD) :
    pre m c ⊢ wp frame (wpE (defs (F := F)) (Variants.lift 𝒱₀) (c : Thread nD τ) none) Set.univ (main (F := F) c)
      fun _ => post (liftTc (fin m) BI.emp) (c : Thread nD τ) := by
  rw [main_eq]
  have hin : iprop(start m c ∗ prefHeld (pcfgs (F := F) 0).pre c (fun _ => fullShare) (((cfgs 0).toPCfg_adm : (pcfgs (F := F) 0).Adm)).1 ∗ scratch c)
      ⊢ (dats m 0 c).Φ 0 := by
    show _ ⊢ before m c
    unfold before
    iintro ⟨S, -, B⟩
    isplitl [S]; · iexact S
    iexact B
  have hout : iprop((dats m 0 c).Φ (Fin.last cfg0.N) ∗ cellsSems0 cfgs 0 c ∗ Dat.staging cfg0 c ∗ emp)
      ⊢ iprop((inputs m c ∗ result m c) ∗ scopedSems0 (c : Thread nD τ) ∗ scopedBufs (c : Thread nD τ)) := by
    rw [show (dats m 0 c).Φ (Fin.last cfg0.N) = later m c from rfl]
    unfold later
    iintro ⟨⟨Y, Z, B⟩, -⟩
    isplitl [Y]; · iexact Y
    isplitl [Z]; · iapply (sems_join c); iexact Z
    iapply (scoped_scratch c).2; iexact B
  have hbufs : (scopedBufs (c : Thread nD τ) : sProp 𝕄) ⊢ iprop(Dat.staging cfg0 c ∗ scratch c) := by
    rw [show (Dat.staging cfg0 c : sProp 𝕄) = iprop(emp) from none_all _]
    iintro B
    isplitr; · iempintro
    iapply (scoped_scratch c).1; iexact B
  have hrun := wp_customCall_entry_frame (pcfgs (F := F)) (fun p => (cfgs p).toPCfg_adm) (dats m) () EP (fun _ => 0) cellOf_inj 0 defs₀ 𝒱₀
    (fun _ => fullShare) c Set.univ (fun _ _ => Set.mem_univ _) (body_holds m c).loose (fun w => (show Fin 0 from w).elim0) none
    (fun u h => nomatch h) (X := start m c) (Y := iprop(inputs m c ∗ result m c)) (R := scratch c) (I := iprop(emp))
    hbufs hin hout (k := fun _ => .ret ⟨⟩) (Q := fun _ : PUnit => post (liftTc (fin m) BI.emp) (c : Thread nD τ))
  unfold pre
  iintro ⟨B, H, S⟩
  iapply hrun $$ [B H S]
  · isplitl [H]
    · unfold EntryPre PerCore.EntryPre
      rw [show (dats m 0 c).arrays ((dats m 0 c).arrAt · 0) = iprop(emp) from none_all _,
        show (PerCore.cellsWaits (fun _ : Dev nD => cfgs) (dats m) () 0 c : sProp 𝕄) = iprop(emp) from none_all _,
        show (PerCore.cellsInit (fun _ : Dev nD => cfgs) (dats m) EP (fun _ => 0) 0 c : sProp 𝕄) = iprop(emp) from none_all _,
        show (PerCore.toksInit (fun _ : Dev nD => cfgs) EP 0 c : sProp 𝕄) = iprop(emp) from none_all _]
      unfold Dat.owesAt Pipeline.owesWithin
      rw [show (dats m 0 c).owed 0 = owe c allCh from rfl]
      isplitr; · iempintro
      isplitl [H]
      · iexists ∅
        isplitr
        · ipureintro; rw [Finset.coe_empty]; exact Set.empty_subset _
        · iexact H
      isplitr; · iempintro
      isplitr; · iempintro
      iempintro
    isplitr
    · rw [show (prefHeld (pcfgs (F := F) 0).pre c (fun _ => fullShare) (((cfgs 0).toPCfg_adm : (pcfgs (F := F) 0).Adm)).1 : sProp 𝕄) = iprop(emp) from none_all _]
      iempintro
    isplitl [S]; · iexact S
    isplitr; · iempintro
    iexact B
  iintro ⟨P, Y, Z, -⟩
  rw [wp_ret]
  imodintro
  unfold post
  simp only [liftTc_tc]
  isplitl [Y Z]
  · unfold fin
    isplitl [Y]; · iexact Y
    iexact Z
  · unfold EntryPost PerCore.EntryPost Dat.owesAt Pipeline.owesWithin
    rw [show (dats m 0 c).owed (Fin.last _) = 0 from rfl]
    icases P with ⟨-, ⟨%W, -, H⟩⟩
    iexists W; iexact H

/-! ## The launch and the final memory -/

/-- The launch's level assignment. -/
theorem levels_all : (bigSep Finset.univ fun c : Dev nD => levels0 (Ix := Unit) (Val := Elt F) (Name := ℕ) (U := UU) (Lvl := ℕ) (τ := τ) (sig := sig) c)
    ⊢ (|==> levAts L lv : sProp 𝕄) := by
  have h := Smoke.lev_assign_devs (nD := nD) (τ := τ) (sig := sig) (Val := Elt F) (Name := ℕ) (U := UU) L lv
  rw [show (fun g : GSem nD τ sig => if g.1.2 = .tc then L g else ∅) = L from funext fun g => by
    split
    · rfl
    · rename_i hg; exact (L_of_ne g hg).symm] at h
  unfold levels0
  iintro H
  imod h $$ H with ⟨-, H⟩
  imodintro
  iexact H

/-- A device's part of what the launch deals. -/
theorem dealt (g : Dev nD → PrngReg) (c : Dev nD) :
    coreInit (Ix := Unit) (Name := ℕ) (U := UU) (Lvl := ℕ) (owing fun d => owe d allCh) 0 (⟨m, fun _ => 0, g⟩ : MemSt nD τ sig (Elt F)) (c : Thread nD τ)
      ⊢ (iprop((scopedBufs (c : Thread nD τ) ∗ owes (c : Thread nD τ) (owe c allCh) ∅) ∗ part m c ∗ levels0 c) : sProp 𝕄) := by
  refine (coreInit_boundary_owing (fun d => owe d allCh) m g c).trans ?_
  unfold boundary part
  iintro ⟨⟨B, Z, -⟩, M, -, H, V, -, C⟩
  isplitl [B H]
  · isplitl [B]; · iexact B
    iexact H
  isplitl [Z M C]
  · isplitl [Z]; · iexact Z
    isplitl [M]; · iexact M
    iexact C
  · iexact V

/-- The devices' starts, with what they hold besides. -/
theorem pre_all : iprop((bigSep Finset.univ fun c : Dev nD => iprop(scopedBufs (c : Thread nD τ) ∗ owes (c : Thread nD τ) (owe c allCh) ∅))
      ∗ bigSep Finset.univ fun c => start m c) ⊢ (bigSep Finset.univ fun c => pre m c : sProp 𝕄) := by
  refine (Entails.of_eq (bigSep_sep' _ _ _).symm).trans (mono_all fun c => ?_)
  unfold pre
  iintro ⟨⟨B, H⟩, S⟩
  iframe

/-- The launch: every device at what its run starts from. -/
theorem launch_all (g : Dev nD → PrngReg) :
    iprop((bigSep Finset.univ fun c : Dev nD => coreInit (Ix := Unit) (Name := ℕ) (U := UU) (Lvl := ℕ) (owing fun d => owe d allCh) 0
      (⟨m, fun _ => 0, g⟩ : MemSt nD τ sig (Elt F)) (c : Thread nD τ)) ∗ ownU u₀)
      ⊢ (|={Set.univ}=> bigSep Finset.univ fun c => pre m c : sProp 𝕄) := by
  iintro ⟨H, U⟩
  ihave H := (mono_all (dealt m g)) $$ H
  ihave H := (Entails.of_eq ((bigSep_sep' _ _ _).trans (congrArg _ (bigSep_sep' _ _ _)))) $$ H
  icases H with ⟨B, P, V⟩
  imod levels_all $$ V with V
  imod (deal m) $$ [P V U] with S
  · isplitl [P]; · iexact P
    isplitl [V]; · iexact V
    iexact U
  imodintro
  iapply (pre_all m)
  isplitl [B]; · iexact B
  iexact S

/-- What a final memory holds on a device: the inputs as at the launch, and the blocks of the result. -/
def Final (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ ∀ d k, (fun j => (s.mem ((c : Thread nD τ).loc main_v1_0) : FVec F S4096x2048 .f32) ((outR d k).emb j)) = outB m c d k

/-- What a device ends with tells of the final memory. -/
theorem read_dev (c : Dev nD) (s' : Phys nD τ sig (Elt F)) :
    iprop(fin m c ∗ SI s') ⊢ (|={Set.univ}=> iprop(⌜Final m c s'.mem ∧ ∀ sm : SemLoc sig, sm.isScoped .tc = true → s'.mem.sem ((c : Thread nD τ), sm) = 0⌝ ∗ SI s') : sProp 𝕄) := by
  unfold fin inputs result
  iintro ⟨⟨⟨⟨A, B⟩, ⟨%X, %hX, Y⟩⟩, Z⟩, S⟩
  ihave %hz := (tcScoped_read_pers c s') $$ [Z S]
  · isplitl [Z] <;> iassumption
  icombine S A gives %ha
  icombine S B gives %hb
  icombine S Y gives %hy
  imodintro
  isplitr
  · ipureintro
    have hy : s'.mem.mem ((c : Thread nD τ).loc main_v1_0) = X := funext fun i => hy i (Finset.mem_univ i)
    refine ⟨⟨⟨funext fun i => ha i (Finset.mem_univ i), funext fun i => hb i (Finset.mem_univ i)⟩, ?_⟩, hz⟩
    rw [hy]; exact hX
  · iexact S

/-- Every weakly fair run of @main from any memory with zero counters ends, with each device's inputs as they were, its
    result made of the blocks the row blocks of `x` make, and every counter at zero. -/
theorem run_main (g : Dev nD → PrngReg) :
    θ_run (defs (F := F)) (onTc (τ := τ) (main (F := F))) ⟨m, fun _ => 0, g⟩ (fun r => (∀ c, Final m c r.2) ∧ r.2.sem = fun _ => 0) := by
  refine (θ_run (defs (F := F)) _ _).mono
    (Q := fun r => (∀ c : Dev nD, Final m c r.2 ∧ ∀ sm : SemLoc sig, sm.isScoped .tc = true → r.2.sem ((c : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu (defs (F := F)) _ _ _ (reflect_intro_fupd_tc_sems (X := Unit) (Variants.lift 𝒱₀) (owing fun d => owe d allCh) 0
      (noBookings fun _ => le_rfl) (owing_of_ne _) u₀ (fun _ => pre m) (fun _ => fin m) (fun _ => iprop(emp)) Set.univ ?_ (fun _ c => run_dev m c) fun _ => ?_))
  · iintro H
    imod (launch_all m g) $$ H with H
    imodintro
    iexists ()
    isplitl [H]; · iexact H
    iempintro
  · iintro ⟨H, -, Z⟩ %s' S
    ihave %hz := (scSems_read_zero m g s') $$ [Z S]
    · isplitl [Z] <;> iassumption
    imod (posts_fupd Finset.univ (read_dev m) s') $$ [H S] with %h
    · isplitl [H] <;> iassumption
    imodintro
    ipureintro
    exact ⟨fun c => h c (Finset.mem_univ c), hz⟩

end Cert.Proof

end
-- ==== Proof.Frames.lean ====
/-
  The frames: every run ends, with the arguments as they were and every counter at zero.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Run

@[expose] public section

noncomputable section

namespace Cert.Proof

open Idealize.ShloMosaic Idealize.SL.Sem

/-- The kernel as printed: it has the text of the idealized one, so its run is that one's at the bit-exact floats. -/
theorem frame_kernel : Cert.quiescent_Kernel := fun m g _ =>
  (θ_run (Cert.KernelIdeal.defs (F := Bits)) _ _).mono (fun _ h => ⟨fun c => (h.1 c).1, h.2⟩) (run_main (F := Bits) m g)

/-- The idealized kernel. -/
theorem frame_ideal : Cert.quiescent_KernelIdeal := fun m g _ =>
  (θ_run (Cert.KernelIdeal.defs (F := Ideal)) _ _).mono (fun _ h => ⟨fun c => (h.1 c).1, h.2⟩) (run_main (F := Ideal) m g)

/-- The reference: it has no semaphore. -/
theorem frame_reference : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

end Cert.Proof

end
-- ==== Proof.Value.lean ====
/-
  The value: each device's result is its columns of the reference's result.
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.Run
public import Idealize.ShloMosaic.Lib.Pointwise
public import Idealize.ShloMosaic.Lib.Layout

@[expose] public section

noncomputable section

namespace Cert.Proof

open Idealize.ShloMosaic Idealize.ShloMosaic.TcCoe Idealize.SL.Sem

/-- The reference's result of `x` and `w`. -/
def refOut (x : FVec Ideal ⟨2, ![4096, 4096]⟩ .f32) (w : FVec Ideal ⟨2, ![4096, 8192]⟩ .f32) : FVec Ideal ⟨2, ![4096, 8192]⟩ .f32 :=
  let y := Host.dotGeneral Cert.ReferenceIdeal.dot_S4096x4096_S4096x8192_S4096x8192_1_0_0_1_n_n none x w
  let k (b : BitVec 32) : FVec Ideal ⟨2, ![4096, 8192]⟩ .f32 :=
    broadcastInDim Cert.ReferenceIdeal.S4096x8192 ![] Cert.ReferenceIdeal.Facts₀.bcast_S_S4096x8192 (constant Cert.ReferenceIdeal.S_ .f32 b)
  mulf (mulf (k 0x3F000000#32) y)
    (addf (k 0x3F800000#32) (Host.tanh (mulf (k 0x3F4C422A#32) (addf y (mulf (k 0x3D372713#32) (mulf (mulf y y) y))))))

/-- What both programs make of an entry `y` of the product: its half times one more than a hyperbolic tangent. -/
def gelu (y : EReal) : EReal :=
  (Ideal.ofBits .f32 0x3F000000#32 * y)
    * (1 + Ideal.tanh (Ideal.ofBits .f32 0x3F4C422A#32 * (y + Ideal.ofBits .f32 0x3D372713#32 * ((y * y) * y))))

/-- An entry of the reference's result: `gelu` of a row of `x` times a column of `w`. -/
theorem refOut_apply (x : FVec Ideal ⟨2, ![4096, 4096]⟩ .f32) (w : FVec Ideal ⟨2, ![4096, 8192]⟩ .f32)
    (i : (⟨2, ![4096, 8192]⟩ : Shape).Idx) :
    refOut x w i = gelu (∑ q : Fin 4096, (x (ix2 (i 0) q) : EReal) * w (ix2 q (i 1))) := by
  pointwise [refOut, gelu]

/-- An entry of a block the kernel makes: `gelu` of a row of the block of `x` times a column of `w`. -/
theorem blockOf_apply (v : FVec Ideal ⟨2, ![256, 4096]⟩ .bf16) (w : FVec Ideal ⟨2, ![4096, 2048]⟩ .bf16)
    (j : (⟨2, ![256, 2048]⟩ : Shape).Idx) :
    blockOf v w j = gelu (∑ q : Fin 4096, (v (ix2 (j 0) q) : EReal) * w (ix2 q (j 1))) := by
  pointwise [blockOf, Cert.KernelIdeal.Gen.k0_pay13, gelu]
  simp only [mul_assoc]

/-- Every row of a result lies in one of the row blocks the kernel stores. -/
theorem outR_cover (i : (⟨2, ![4096, 2048]⟩ : Shape).Idx) :
    ∃ (d : Dev Cert.KernelIdeal.nD) (k : Fin 4) (j : (⟨2, ![256, 2048]⟩ : Shape).Idx),
      (outR d k).emb j = i ∧ (i 0).val = 1024 * d.val + 256 * k.val + (j 0).val ∧ (i 1).val = (j 1).val := by
  have h0 : (i 0).val < 4096 := (i 0).isLt
  refine ⟨⟨(i 0).val / 1024, by show _ < 4; omega⟩, ⟨(i 0).val % 1024 / 256, by omega⟩,
    ix2 ⟨(i 0).val % 256, by omega⟩ (i 1), ?_, ?_, rfl⟩
  · funext a
    apply Fin.ext
    fin_cases a
    · show 1024 * ((i 0).val / 1024) + 256 * ((i 0).val % 1024 / 256) + 1 * ((i 0).val % 256) = (i 0).val
      omega
    · show 0 + 1 * (i 1).val = (i 1).val
      omega
  · show (i 0).val = 1024 * ((i 0).val / 1024) + 256 * ((i 0).val % 1024 / 256) + (i 0).val % 256
    omega

section
open Cert.KernelIdeal

variable (m : (ℓ : Loc nD τ sig) → Buf (Elt Ideal) ℓ)
  (x : FVec Ideal ⟨2, ![4096, 4096]⟩ .f32) (w : FVec Ideal ⟨2, ![4096, 8192]⟩ .f32)

/-- When the devices hold the row blocks of `x` and the column blocks of `w`, an entry of a block of device `c`'s result
    is the reference's, in the row `r` of the whole and in a column of `c`'s. -/
theorem outB_apply (hx : ∀ c, xIn m c = Layout.block ⟨2, ![1024, 4096]⟩ ⟨2, ![4096, 4096]⟩ 0 4 c x)
    (hw : ∀ c, wIn m c = Layout.block ⟨2, ![4096, 2048]⟩ ⟨2, ![4096, 8192]⟩ 1 4 c w)
    (c d : Dev nD) (k : Fin 4) (j : (⟨2, ![256, 2048]⟩ : Shape).Idx) (i : (⟨2, ![4096, 8192]⟩ : Shape).Idx)
    (h0 : (i 0).val = 1024 * d.val + 256 * k.val + (j 0).val) (h1 : (i 1).val = c.val * 2048 + (j 1).val) :
    outB m c d k j = refOut x w i := by
  rw [outB, blockOf_apply, refOut_apply]
  congr 1
  refine Finset.sum_congr rfl fun q _ => ?_
  have ex : (xb m d k (ix2 (j 0) q) : EReal) = x (ix2 (i 0) q) := by
    show xIn m d ((rowR k).emb (ix2 (j 0) q)) = _
    rw [hx, Layout.block_apply]
    congr 1
    funext a
    apply Fin.ext
    fin_cases a
    · show d.val * 1024 + (256 * k.val + 1 * (j 0).val) = (i 0).val
      omega
    · show 0 + 1 * q.val = q.val
      omega
  have ew : (wNar m c (ix2 q (j 1)) : EReal) = w (ix2 q (i 1)) := by
    show wIn m c (ix2 q (j 1)) = _
    rw [hw, Layout.block_apply]
    congr 1
    funext a
    apply Fin.ext
    fin_cases a
    · rfl
    · exact h1.symm
  rw [ex, ew]

/-- So what the run leaves on device `c` is its columns of the reference's result. -/
theorem final_value (hx : ∀ c, xIn m c = Layout.block ⟨2, ![1024, 4096]⟩ ⟨2, ![4096, 4096]⟩ 0 4 c x)
    (hw : ∀ c, wIn m c = Layout.block ⟨2, ![4096, 2048]⟩ ⟨2, ![4096, 8192]⟩ 1 4 c w)
    (c : Dev nD) (s : MemSt nD τ sig (Elt Ideal)) (h : Final m c s) :
    s.mem ((c.tc : Thread nD τ).loc main_v1_0) = Layout.block ⟨2, ![4096, 2048]⟩ ⟨2, ![4096, 8192]⟩ 1 4 c (refOut x w) := by
  funext i
  obtain ⟨d, k, j, e, h0, h1⟩ := outR_cover i
  refine Eq.trans (congrArg (s.mem ((c.tc : Thread nD τ).loc main_v1_0)) e.symm) ((congrFun (h.2 d k) j).trans ?_)
  rw [Layout.block_apply]
  refine outB_apply m x w hx hw c d k j _ h0 ?_
  rw [← h1]
  rfl

end

/-- The value claim: on four devices the kernel's results are the column blocks of the reference's result. -/
theorem algebraic : Cert.algebraic_KernelIdeal_ReferenceIdeal := fun m g m' g' _ hin =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono
      (fun r h c => ⟨final_value m _ _ (fun c => (hin c).1) (fun c => (hin c).2) c r.2 (h.1 c), (h.1 c).1⟩)
      (run_main (F := Ideal) m g),
    (θ_run (Cert.ReferenceIdeal.defs (F := Ideal)) _ _).mono (fun _ h => h 0)
      (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, frame_kernel, frame_ideal, frame_reference, trivial, algebraic⟩

end Cert.Proof

end
